-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x12x2048x64 : Shape := ⟨4, ![1, 12, 2048, 64]⟩
abbrev S12 : Shape := ⟨1, ![12]⟩
abbrev S_ : Shape := ⟨0, ![]⟩

class Facts : Prop where
  bcast_S_S1x12x2048x64 : S_.BroadcastsInDim S1x12x2048x64 (![] : Fin 0 → Fin S1x12x2048x64.rank)
  reducesTo_S1x12x2048x64_S_d0_1_2_3 : S1x12x2048x64.ReducesTo [0, 1, 2, 3] S_
  h_S_ : 0 < S_.numel
  bcast_S_S12 : S_.BroadcastsInDim S12 (![] : Fin 0 → Fin S12.rank)
  reducesTo_S12_S_d0 : S12.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1x12x2048x64 .f32) (main_arg1 : FVec F S1x12x2048x64 .f32) (main_arg2 : FVec F S1x12x2048x64 .f32) (main_arg3 : FVec F S12 .f32) (main_arg4 : FVec F S12 .f32) : IVec S_ 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_c : IVec S_ 1 := constantI S_ 1 1#1
  let main_v3 : IVec S_ 1 := (fun x v => Host.reduce IntOp.andi x v reducesTo_S1x12x2048x64_S_d0_1_2_3 h_S_) main_v2 main_c
  let main_v4 : FVec F S1x12x2048x64 .f32 := Host.absf main_arg1
  let main_cst_0 : FVec F S_ .f32 := constant S_ .f32 0x7F800000#32
  let main_v5 : FVec F S1x12x2048x64 .f32 := broadcastInDim S1x12x2048x64 ![] bcast_S_S1x12x2048x64 main_cst_0
  let main_v6 : IVec S1x12x2048x64 1 := cmpf .olt main_v4 main_v5
  let main_c_1 : IVec S_ 1 := constantI S_ 1 1#1
  let main_v7 : IVec S_ 1 := (fun x v => Host.reduce IntOp.andi x v reducesTo_S1x12x2048x64_S_d0_1_2_3 h_S_) main_v6 main_c_1
  let main_v8 : IVec S_ 1 := andi main_v3 main_v7
  let main_cst_2 : FVec F S_ .f32 := constant S_ .f32 0xBF800000#32
  let main_v9 : FVec F S12 .f32 := broadcastInDim S12 ![] bcast_S_S12 main_cst_2
  let main_v10 : IVec S12 1 := cmpf .ole main_arg3 main_v9
  let main_c_3 : IVec S_ 1 := constantI S_ 1 1#1
  let main_v11 : IVec S_ 1 := (fun x v => Host.reduce IntOp.andi x v reducesTo_S12_S_d0 h_S_) main_v10 main_c_3
  let main_v12 : IVec S_ 1 := andi main_v8 main_v11
  let main_cst_4 : FVec F S_ .f32 := constant S_ .f32 0x3F800000#32
  let main_v13 : FVec F S12 .f32 := broadcastInDim S12 ![] bcast_S_S12 main_cst_4
  let main_v14 : IVec S12 1 := cmpf .olt main_arg4 main_v13
  let main_c_5 : IVec S_ 1 := constantI S_ 1 1#1
  let main_v15 : IVec S_ 1 := (fun x v => Host.reduce IntOp.andi x v reducesTo_S12_S_d0 h_S_) main_v14 main_c_5
  fn_part1 (F := F) main_v12 main_v15
-- ==== Kernel.lean ====
abbrev S1x12x2048x64 : Shape := ⟨4, ![1, 12, 2048, 64]⟩
abbrev S12 : Shape := ⟨1, ![12]⟩
abbrev S1x1x2048x64 : Shape := ⟨4, ![1, 1, 2048, 64]⟩
abbrev S2048x64 : Shape := ⟨2, ![2048, 64]⟩
abbrev S32x2048 : Shape := ⟨2, ![32, 2048]⟩
abbrev S32x64x64 : Shape := ⟨3, ![32, 64, 64]⟩
abbrev S32x64 : Shape := ⟨2, ![32, 64]⟩
abbrev S64 : Shape := ⟨1, ![64]⟩
abbrev S1x64 : Shape := ⟨2, ![1, 64]⟩
abbrev S32x32 : Shape := ⟨2, ![32, 32]⟩
abbrev S32 : Shape := ⟨1, ![32]⟩
abbrev S32x1 : Shape := ⟨2, ![32, 1]⟩
abbrev S32x32x1 : Shape := ⟨3, ![32, 32, 1]⟩
abbrev S32x1x32 : Shape := ⟨3, ![32, 1, 32]⟩
abbrev S32x32x32 : Shape := ⟨3, ![32, 32, 32]⟩
abbrev S1 : Shape := ⟨1, ![1]⟩
abbrev S2048x2048 : Shape := ⟨2, ![2048, 2048]⟩
abbrev S32x64x2048 : Shape := ⟨3, ![32, 64, 2048]⟩
abbrev S32x1x2048 : Shape := ⟨3, ![32, 1, 2048]⟩
abbrev S2048x1 : Shape := ⟨2, ![2048, 1]⟩
abbrev S2048x65 : Shape := ⟨2, ![2048, 65]⟩

abbrev nBuf : Space → Nat
  | .hbm => 6
  | .vmem => 8
  | .smem => 2
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S12, .f32⟩
  | .hbm, ⟨4, _⟩ => ⟨S12, .f32⟩
  | .hbm, ⟨5, _⟩ => ⟨S1x12x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x64, .f32⟩
  | .local _ .vmem, ⟨7, _⟩ => ⟨S1x1x2048x64, .f32⟩
  | .local _ .smem, ⟨0, _⟩ => ⟨S12, .f32⟩
  | .local _ .smem, ⟨1, _⟩ => ⟨S12, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def k0_off1 (i : grid0.Coords) : Fin 1 → Nat :=
  let arg0 : BitVec 32 := BitVec.ofNat 32 (i 0).val
  let v79 : Index := Scalar.indexCast arg0
  ![v79.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x12x2048x64 : Shape := ⟨4, ![1, 12, 2048, 64]⟩
abbrev S12 : Shape := ⟨1, ![12]⟩
abbrev S_ : Shape := ⟨0, ![]⟩
abbrev S1x12x64 : Shape := ⟨3, ![1, 12, 64]⟩
abbrev S1x12x1x64 : Shape := ⟨4, ![1, 12, 1, 64]⟩
abbrev S1x12x32x64x64 : Shape := ⟨5, ![1, 12, 32, 64, 64]⟩
abbrev S1x12x32x64 : Shape := ⟨4, ![1, 12, 32, 64]⟩
abbrev S1x12x32x64x1 : Shape := ⟨5, ![1, 12, 32, 64, 1]⟩
abbrev S1x12x32 : Shape := ⟨3, ![1, 12, 32]⟩
abbrev S1x12x32x1 : Shape := ⟨4, ![1, 12, 32, 1]⟩
abbrev S1x12x32x1x64 : Shape := ⟨5, ![1, 12, 32, 1, 64]⟩
abbrev S1x12x1 : Shape := ⟨3, ![1, 12, 1]⟩
abbrev S1x12x32x32 : Shape := ⟨4, ![1, 12, 32, 32]⟩
abbrev S12x32x32x1 : Shape := ⟨4, ![12, 32, 32, 1]⟩
abbrev S1 : Shape := ⟨1, ![1]⟩
abbrev S1x1x1x1 : Shape := ⟨4, ![1, 1, 1, 1]⟩
abbrev S12x32x32 : Shape := ⟨3, ![12, 32, 32]⟩
abbrev S1x12x1x1 : Shape := ⟨4, ![1, 12, 1, 1]⟩
abbrev S1x12x32x64x32 : Shape := ⟨5, ![1, 12, 32, 64, 32]⟩
abbrev S1x12x2048x32 : Shape := ⟨4, ![1, 12, 2048, 32]⟩
abbrev S1x12x2048x32x64 : Shape := ⟨5, ![1, 12, 2048, 32, 64]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩

abbrev nBuf : Space → Nat
  | .hbm => 167
  | .vmem => 0
  | .smem => 0
  | _ => 0

abbrev hbmTy0_0 (i : Nat) : BufTy := match i % 128 with
  | 0 => ⟨S1x12x2048x64, .f32⟩
  | 1 => ⟨S1x12x2048x64, .f32⟩
  | 2 => ⟨S1x12x2048x64, .f32⟩
  | 3 => ⟨S12, .f32⟩
  | 4 => ⟨S12, .f32⟩
  | 5 => ⟨S_, .f32⟩
  | 6 => ⟨S1x12x64, .f32⟩
  | 7 => ⟨S1x12x1x64, .f32⟩
  | 8 => ⟨S_, .f32⟩
  | 9 => ⟨S1x12x1x64, .f32⟩
  | 10 => ⟨S1x12x1x64, .f32⟩
  | 11 => ⟨S1x12x2048x64, .f32⟩
  | 12 => ⟨S1x12x2048x64, .f32⟩
  | 13 => ⟨S1x12x32x64x64, .f32⟩
  | 14 => ⟨S_, .f32⟩
  | 15 => ⟨S1x12x32x64, .f32⟩
  | 16 => ⟨S_, .f32⟩
  | 17 => ⟨S1x12x32x64, .f32⟩
  | 18 => ⟨S1x12x32x64, .f32⟩
  | 19 => ⟨S1x12x32x64x64, .f32⟩
  | 20 => ⟨S_, .f32⟩
  | 21 => ⟨S1x12x32x64, .f32⟩
  | 22 => ⟨S1x12x32x64x1, .f32⟩
  | 23 => ⟨S1x12x32x64x1, .f32⟩
  | 24 => ⟨S_, .f32⟩
  | 25 => ⟨S1x12x32x64x1, .f32⟩
  | 26 => ⟨S1x12x32x64x1, .f32⟩
  | 27 => ⟨S1x12x32x64x64, .f32⟩
  | 28 => ⟨S1x12x32x64x64, .f32⟩
  | 29 => ⟨S1x12x32x64, .f32⟩
  | 30 => ⟨S_, .f32⟩
  | 31 => ⟨S1x12x32, .f32⟩
  | 32 => ⟨S1x12x32x1, .f32⟩
  | 33 => ⟨S1x12x32x1, .f32⟩
  | 34 => ⟨S_, .f32⟩
  | 35 => ⟨S1x12x32x1, .f32⟩
  | 36 => ⟨S1x12x32x1, .f32⟩
  | 37 => ⟨S1x12x32x64, .f32⟩
  | 38 => ⟨S1x12x32x64, .f32⟩
  | 39 => ⟨S1x12x32x1x64, .f32⟩
  | 40 => ⟨S1x12x32x64x64, .f32⟩
  | 41 => ⟨S1x12x32x64x64, .f32⟩
  | 42 => ⟨S_, .f32⟩
  | 43 => ⟨S1x12x32x64, .f32⟩
  | 44 => ⟨S_, .f32⟩
  | 45 => ⟨S1x12x32, .f32⟩
  | 46 => ⟨S1x12x1, .f32⟩
  | 47 => ⟨S1x12x32, .f32⟩
  | 48 => ⟨S1x12x32, .i1⟩
  | 49 => ⟨S1x12x32x64x64, .f32⟩
  | 50 => ⟨S_, .f32⟩
  | 51 => ⟨S1x12x32x64, .f32⟩
  | 52 => ⟨S_, .f32⟩
  | 53 => ⟨S1x12x32x64, .f32⟩
  | 54 => ⟨S1x12x32x64, .f32⟩
  | 55 => ⟨S1x12x32x32, .f32⟩
  | 56 => ⟨S_, .f32⟩
  | 57 => ⟨S1x12x32x32, .f32⟩
  | 58 => ⟨S1x12x32x32, .f32⟩
  | 59 => ⟨S_, .f32⟩
  | 60 => ⟨S1x12x32, .f32⟩
  | 61 => ⟨S_, .f32⟩
  | 62 => ⟨S1x12x32, .f32⟩
  | 63 => ⟨S1x12x32, .f32⟩
  | 64 => ⟨S1x12x32x1, .f32⟩
  | 65 => ⟨S1x12x32x32, .f32⟩
  | 66 => ⟨S1x12x32x32, .f32⟩
  | 67 => ⟨S1x12x32x32, .f32⟩
  | 68 => ⟨S_, .f32⟩
  | 69 => ⟨S1x12x32, .f32⟩
  | 70 => ⟨S1x12x32x1, .f32⟩
  | 71 => ⟨S1x12x32x32, .f32⟩
  | 72 => ⟨S1x12x32x32, .f32⟩
  | 73 => ⟨S1x12x32x32, .f32⟩
  | 74 => ⟨S1x12x32x32, .i32⟩
  | 75 => ⟨S1x12x32x32, .f32⟩
  | 76 => ⟨S1x12x32x32, .i32⟩
  | 77 => ⟨S_, .i32⟩
  | 78 => ⟨S1x12x32x32, .i32⟩
  | 79 => ⟨S1x12x32x32, .i1⟩
  | 80 => ⟨S_, .i32⟩
  | 81 => ⟨S1x12x32x32, .i32⟩
  | 82 => ⟨S1x12x32x32, .i32⟩
  | 83 => ⟨S1x12x32x32, .i32⟩
  | 84 => ⟨S12x32x32x1, .i32⟩
  | 85 => ⟨S1, .i32⟩
  | 86 => ⟨S_, .i32⟩
  | 87 => ⟨S12x32x32x1, .i32⟩
  | 88 => ⟨S12x32x32x1, .i1⟩
  | 89 => ⟨S1x1x1x1, .i32⟩
  | 90 => ⟨S12x32x32x1, .i32⟩
  | 91 => ⟨S12x32x32x1, .i1⟩
  | 92 => ⟨S12x32x32x1, .i1⟩
  | 93 => ⟨S_, .i1⟩
  | 94 => ⟨S12x32x32, .i1⟩
  | 95 => ⟨S1x12x32x32, .f32⟩
  | 96 => ⟨S1x12x32x32, .i1⟩
  | 97 => ⟨S_, .f32⟩
  | 98 => ⟨S1x12x32x32, .f32⟩
  | 99 => ⟨S1x12x32x32, .f32⟩
  | 100 => ⟨S_, .f32⟩
  | 101 => ⟨S_, .f32⟩
  | 102 => ⟨S1x12x32x32, .f32⟩
  | 103 => ⟨S1x12x1x1, .f32⟩
  | 104 => ⟨S1x12x32x32, .f32⟩
  | 105 => ⟨S_, .f32⟩
  | 106 => ⟨S1x12x1x1, .f32⟩
  | 107 => ⟨S1x12x1x1, .f32⟩
  | 108 => ⟨S1x12x32x32, .f32⟩
  | 109 => ⟨S1x12x32x32, .i1⟩
  | 110 => ⟨S1x12x32x32, .i32⟩
  | 111 => ⟨S1x12x32x32, .i32⟩
  | 112 => ⟨S1x12x32x32, .i32⟩
  | 113 => ⟨S_, .i32⟩
  | 114 => ⟨S1x12x32x32, .i32⟩
  | 115 => ⟨S1x12x32x32, .i1⟩
  | 116 => ⟨S_, .i32⟩
  | 117 => ⟨S1x12x32x32, .i32⟩
  | 118 => ⟨S1x12x32x32, .i32⟩
  | 119 => ⟨S1x12x32x32, .i32⟩
  | 120 => ⟨S12x32x32x1, .i32⟩
  | 121 => ⟨S1, .i32⟩
  | 122 => ⟨S_, .i32⟩
  | 123 => ⟨S12x32x32x1, .i32⟩
  | 124 => ⟨S12x32x32x1, .i1⟩
  | 125 => ⟨S1x1x1x1, .i32⟩
  | 126 => ⟨S12x32x32x1, .i32⟩
  | 127 => ⟨S12x32x32x1, .i1⟩
  | _ => ⟨S1x12x2048x64, .f32⟩

abbrev hbmTy0_1 (i : Nat) : BufTy := match i % 128 with
  | 0 => ⟨S12x32x32x1, .i1⟩
  | 1 => ⟨S_, .i1⟩
  | 2 => ⟨S12x32x32, .i1⟩
  | 3 => ⟨S1x12x32x32, .i1⟩
  | 4 => ⟨S1x12x32x32, .i1⟩
  | 5 => ⟨S_, .i1⟩
  | 6 => ⟨S1x12x32x32, .i1⟩
  | 7 => ⟨S1x12x32x32, .i1⟩
  | 8 => ⟨S1x12x32, .i1⟩
  | 9 => ⟨S1x12x32x1, .i1⟩
  | 10 => ⟨S1x12x32x32, .i1⟩
  | 11 => ⟨S1x12x32x32, .i1⟩
  | 12 => ⟨S1x12x32x64x32, .i1⟩
  | 13 => ⟨S1x12x2048x32, .i1⟩
  | 14 => ⟨S1x12x2048x32x64, .i1⟩
  | 15 => ⟨S1x12x2048x2048, .i1⟩
  | 16 => ⟨S1x12x2048x2048, .f32⟩
  | 17 => ⟨S_, .f32⟩
  | 18 => ⟨S1x12x2048x2048, .f32⟩
  | 19 => ⟨S1x12x2048x2048, .f32⟩
  | 20 => ⟨S_, .f32⟩
  | 21 => ⟨S_, .f32⟩
  | 22 => ⟨S1x12x2048x2048, .f32⟩
  | 23 => ⟨S1x12x2048x2048, .f32⟩
  | 24 => ⟨S_, .f32⟩
  | 25 => ⟨S1x12x2048, .f32⟩
  | 26 => ⟨S_, .f32⟩
  | 27 => ⟨S1x12x2048, .f32⟩
  | 28 => ⟨S1x12x2048, .f32⟩
  | 29 => ⟨S1x12x2048x1, .f32⟩
  | 30 => ⟨S1x12x2048x2048, .f32⟩
  | 31 => ⟨S1x12x2048x2048, .f32⟩
  | 32 => ⟨S1x12x2048x2048, .f32⟩
  | 33 => ⟨S_, .f32⟩
  | 34 => ⟨S1x12x2048, .f32⟩
  | 35 => ⟨S1x12x2048x1, .f32⟩
  | 36 => ⟨S1x12x2048x2048, .f32⟩
  | 37 => ⟨S1x12x2048x2048, .f32⟩
  | 38 => ⟨S1x12x2048x64, .f32⟩
  | _ => ⟨S1x12x2048x64, .f32⟩

abbrev hbmTy (i : Nat) : BufTy := match i / 128 with
  | 0 => hbmTy0_0 i
  | 1 => hbmTy0_1 i
  | _ => ⟨S1x12x2048x64, .f32⟩

abbrev bufTy : (tb : Table) → Fin (tcTables nBuf tb) → BufTy
  | .hbm, ⟨i, _⟩ => hbmTy i
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_cst_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call2_v0 : Ref sig .tc := ⟨.hbm, 74, rfl⟩
abbrev main_call2_v1_0 : Ref sig .tc := ⟨.hbm, 75, rfl⟩
abbrev main_v47 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v48 : Ref sig .tc := ⟨.hbm, 99, rfl⟩
abbrev main_call4_call0_cst : Ref sig .tc := ⟨.hbm, 100, rfl⟩
abbrev main_call4_call0_v0 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_13 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_call5_v0 : Ref sig .tc := ⟨.hbm, 110, rfl⟩
abbrev main_call5_v1_0 : Ref sig .tc := ⟨.hbm, 111, rfl⟩
abbrev main_v56 : Ref sig .tc := ⟨.hbm, 112, rfl⟩
abbrev main_call6_c : Ref sig .tc := ⟨.hbm, 113, rfl⟩
abbrev main_call6_v0 : Ref sig .tc := ⟨.hbm, 114, rfl⟩
abbrev main_call6_v1 : Ref sig .tc := ⟨.hbm, 115, rfl⟩
abbrev main_call6_c_0 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_c_1 : Ref sig .tc := ⟨.hbm, 121, rfl⟩
abbrev main_call6_c_2 : Ref sig .tc := ⟨.hbm, 122, rfl⟩
abbrev main_call6_v6 : Ref sig .tc := ⟨.hbm, 123, rfl⟩
abbrev main_call6_v7 : Ref sig .tc := ⟨.hbm, 124, rfl⟩
abbrev main_call6_v8 : Ref sig .tc := ⟨.hbm, 125, rfl⟩
abbrev main_call6_v9 : Ref sig .tc := ⟨.hbm, 126, rfl⟩
abbrev main_call6_v10 : Ref sig .tc := ⟨.hbm, 127, rfl⟩
abbrev main_call6_v11 : Ref sig .tc := ⟨.hbm, 128, rfl⟩
abbrev main_call6_c_3 : Ref sig .tc := ⟨.hbm, 129, rfl⟩
abbrev main_call6_v12 : Ref sig .tc := ⟨.hbm, 130, rfl⟩
abbrev main_call6_v13 : Ref sig .tc := ⟨.hbm, 131, rfl⟩
abbrev main_call6_v14 : Ref sig .tc := ⟨.hbm, 132, rfl⟩
abbrev main_call6_c_4 : Ref sig .tc := ⟨.hbm, 133, rfl⟩
abbrev main_call6_v15 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_cst_14 : Ref sig .tc := ⟨.hbm, 145, rfl⟩
abbrev main_v67 : Ref sig .tc := ⟨.hbm, 146, rfl⟩
abbrev main_v68 : Ref sig .tc := ⟨.hbm, 147, rfl⟩
abbrev main_cst_15 : Ref sig .tc := ⟨.hbm, 148, rfl⟩
abbrev main_call7_v0 : Ref sig .tc := ⟨.hbm, 149, rfl⟩
abbrev main_call7_v1 : Ref sig .tc := ⟨.hbm, 150, rfl⟩
abbrev main_v69 : Ref sig .tc := ⟨.hbm, 151, rfl⟩
abbrev main_cst_16 : Ref sig .tc := ⟨.hbm, 152, rfl⟩
abbrev main_v70 : Ref sig .tc := ⟨.hbm, 153, rfl⟩
abbrev main_cst_17 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_cst_18 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩

abbrev nD : Nat := 1
abbrev τ : Topo := Topo.v7x

variable {F : FTy → Type} [FloatOps F]
-- ==== Proof.Frames.lean ====
/- The frames of the three programs and the one constant that is read as a name: every program ends with its
   arguments unchanged and every semaphore at zero, and the kernel's masking constant is the value its name has. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_pre
public import Idealize.ShloMosaic.Lib.Quiescent

@[expose] public section

noncomputable section

open Idealize.ShloMosaic Idealize.ShloMosaic.TcCoe Idealize.SL.Sem

namespace Cert.Proof.Frames

/-- The kernel, on bit patterns, runs, keeps its arguments and ends quiescent. -/
theorem kernel : Cert.quiescent_Kernel := fun m ρ _ => Cert.Kernel.Gen.frame m ρ

/-- The idealized kernel runs, keeps its arguments and ends quiescent. -/
theorem kernelIdeal : Cert.quiescent_KernelIdeal := fun m ρ _ => Cert.KernelIdeal.Gen.frame m ρ

/-- The same from memories that satisfy the precondition of the value claim. -/
theorem kernelIdeal_pre : Cert.quiescent_KernelIdeal_pre_pre := fun m ρ _ => Cert.KernelIdeal.Gen.frame m ρ

/-- The idealized reference runs, keeps its arguments and ends quiescent. -/
theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same from memories that satisfy the precondition of the value claim. -/
theorem referenceIdeal_pre : Cert.quiescent_ReferenceIdeal_pre_pre := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The constant `-1e9` that the kernel masks with is the named constant `mask`, which is `-∞`. -/
theorem preserves : Cert.preserves_Kernel_KernelIdeal :=
  IdealRules.named_const.statement Cert.KernelIdeal.κ "mask" .f32 0xCE6E6B28#32 ⊥ rfl

end Cert.Proof.Frames

end
-- ==== Proof.Order.lean ====
/- The stable sort of positions by a key: the sorted order is "smaller key first, then lower position", sorting the
   sorted positions inverts the order, and a sum over the positions that come earlier in the sorted order is a sum over
   the positions that are before in that relation. -/
module

public import Idealize.ShloMosaic.Lib.SortFacts
public import Mathlib.Data.Real.Basic
public import Mathlib.Algebra.BigOperators.Group.Finset.Basic
public import Mathlib.Algebra.BigOperators.Fin
public import Mathlib.Order.Fin.Basic

@[expose] public section

namespace Cert.Proof.Order

open Idealize.ShloMosaic

/-- `a` comes before `b`: its key is smaller, or the keys are equal and `P` puts it first. -/
def Lex {ι α : Type} [LinearOrder α] (key : ι → α) (P : ι → ι → Prop) (a b : ι) : Prop :=
  key a < key b ∨ (key a = key b ∧ P a b)

section lists
variable {ι α : Type} [LinearOrder α] (key : ι → α) (P : ι → ι → Prop)

/-- Inserting an entry that stands before all others into a list in the order `Lex` keeps the list in that order. -/
theorem pairwise_insertBefore (a : ι) (l : List ι) (ha : ∀ b ∈ l, P a b) (hl : l.Pairwise (Lex key P)) :
    (insertBefore (fun x y => decide (key x < key y)) a l).Pairwise (Lex key P) := by
  induction l with
  | nil => exact List.pairwise_singleton _ _
  | cons b l ih =>
    rw [List.pairwise_cons] at hl
    unfold insertBefore
    split
    · rename_i h
      have h' : key b < key a := by simpa using h
      refine List.pairwise_cons.mpr ⟨fun c hc => ?_, ih (fun c hc => ha c (List.mem_cons_of_mem b hc)) hl.2⟩
      rcases List.mem_cons.mp ((perm_insertBefore _ a l).mem_iff.mp hc) with rfl | hc'
      · exact Or.inl h'
      · exact hl.1 c hc'
    · rename_i h
      have h' : key a ≤ key b := by simpa using h
      refine List.pairwise_cons.mpr ⟨fun c hc => ?_, List.pairwise_cons.mpr hl⟩
      have hac : key a ≤ key c := by
        rcases List.mem_cons.mp hc with rfl | hc'
        · exact h'
        · rcases hl.1 c hc' with h1 | ⟨h1, -⟩
          · exact h'.trans h1.le
          · exact h'.trans h1.le
      rcases lt_or_eq_of_le hac with h1 | h1
      · exact Or.inl h1
      · exact Or.inr ⟨h1, ha c hc⟩

/-- The stable sort leaves a list in the order `Lex` of its key and of the order it stood in. -/
theorem pairwise_stableSort (l : List ι) (hl : l.Pairwise P) :
    (stableSort (fun x y => decide (key x < key y)) l).Pairwise (Lex key P) := by
  induction l with
  | nil => exact List.Pairwise.nil
  | cons a l ih =>
    rw [List.pairwise_cons] at hl
    unfold stableSort
    exact pairwise_insertBefore key P a _ (fun b hb => hl.1 b ((perm_stableSort _ l).mem_iff.mp hb)) (ih hl.2)

end lists

variable {n : ℕ} {α : Type} [LinearOrder α]

/-- The position that the stable sort by `key` puts at `i`. -/
def order (key : Fin n → α) (i : Fin n) : Fin n := sortedFrom (fun x y => decide (key x < key y)) i

/-- Where position `j` goes: the sort of the sorted positions. -/
def rank (key : Fin n → α) (j : Fin n) : Fin n := sortedFrom (fun x y => decide (order key x < order key y)) j

/-- Earlier in the sorted order is before, by key and then by position. -/
theorem lex_order (key : Fin n → α) {i j : Fin n} (hij : i < j) : Lex key (· < ·) (order key i) (order key j) := by
  have hp := List.pairwise_iff_get.mp (pairwise_stableSort key (· < ·) (List.finRange n) (List.pairwise_lt_finRange n))
  unfold order sortedFrom
  exact hp _ _ hij

theorem order_injective (key : Fin n → α) : Function.Injective (order key) := sortedFrom_injective _

/-- Sorting the sorted positions inverts the sort. -/
theorem order_rank (key : Fin n → α) (j : Fin n) : order key (rank key j) = j := by
  have hm : StrictMono fun j => order key (rank key j) := fun i j hij => by
    rcases lex_order (order key) hij with h | ⟨h, -⟩
    · exact h
    · exact absurd (sortedFrom_injective _ (order_injective key h)) hij.ne
  have hid : (fun j => order key (rank key j)) = id := by
    refine (StrictMono.range_inj hm strictMono_id).mp ?_
    rw [Set.range_id]
    exact Set.range_eq_univ.mpr ((Finite.injective_iff_surjective).mp hm.injective)
  exact congrFun hid j

/-- A position stands earlier than `j` in the sorted order exactly when it is before `j`. -/
theorem lt_rank_iff (key : Fin n → α) (i j : Fin n) : i < rank key j ↔ Lex key (· < ·) (order key i) j := by
  constructor
  · intro h
    have := lex_order key h
    rwa [order_rank] at this
  · intro h
    by_contra hn
    rcases lt_or_eq_of_le (not_lt.mp hn) with h1 | h1
    · have h2 := lex_order key h1
      rw [order_rank] at h2
      rcases h with h | ⟨h, h'⟩ <;> rcases h2 with h2 | ⟨h2, h2'⟩
      · exact lt_asymm h h2
      · exact h.ne h2.symm
      · exact h2.ne h.symm
      · exact lt_asymm h' h2'
    · rw [← h1, order_rank] at h
      rcases h with h | ⟨-, h⟩ <;> exact lt_irrefl _ h

/-- The sum over the sorted positions that stand earlier than `j`'s is the sum over the positions before `j`. -/
theorem sum_lt_rank (key : Fin n → α) (f : Fin n → ℝ) (j : Fin n) [∀ l, Decidable (Lex key (· < ·) l j)] :
    (∑ i, if i < rank key j then f (order key i) else 0) = ∑ l, if Lex key (· < ·) l j then f l else 0 := by
  have hb : Function.Bijective (order key) :=
    ⟨order_injective key, (Finite.injective_iff_surjective).mp (order_injective key)⟩
  refine Fintype.sum_bijective (order key) hb _ _ fun i => ?_
  simp only [lt_rank_iff]

/-- An inclusive prefix sum in the sorted order, less its last term, is the sum over the positions before. -/
theorem prefix_sub_eq (key : Fin n → α) (f : Fin n → ℝ) (j : Fin n) [∀ l, Decidable (Lex key (· < ·) l j)] :
    (∑ i, if i ≤ rank key j then f (order key i) else 0) - f (order key (rank key j))
      = ∑ l, if Lex key (· < ·) l j then f l else 0 := by
  rw [← sum_lt_rank, sub_eq_iff_eq_add]
  have hone : f (order key (rank key j)) = ∑ i, if i = rank key j then f (order key i) else 0 := by
    rw [Finset.sum_ite_eq' Finset.univ (rank key j) fun i => f (order key i)]; simp
  rw [hone, ← Finset.sum_add_distrib]
  refine Finset.sum_congr rfl fun i _ => ?_
  rcases lt_trichotomy i (rank key j) with h | h | h
  · simp [h, h.le, h.ne]
  · simp [h]
  · simp [not_lt.mpr h.le, not_le.mpr h, h.ne']

end Cert.Proof.Order
-- ==== Proof.Spec.lean ====
/- The mathematics of the attention, per head, over the reals: what both programs compute from one head's queries,
   keys and values. -/
module

public import proofs.«01_k».proof.Proof.Order
public import Mathlib.Analysis.SpecialFunctions.Exp
public import Idealize.ShloMosaic.Lib.Pointwise

@[expose] public section

noncomputable section

namespace Cert.Proof.Spec

open Idealize.ShloMosaic

/-- One head's queries or keys. -/
abbrev Mat : Type := Fin 2048 → Fin 64 → ℝ

/-- Row `t` of block `b`. -/
def row (b : Fin 32) (t : Fin 64) : Fin 2048 := ⟨b.val * 64 + t.val, by omega⟩

/-- The block that row `r` is in. -/
def blk (r : Fin 2048) : Fin 32 := ⟨r.val / 64, by omega⟩

/-- The mean row of block `b`. -/
def bm (X : Mat) (b : Fin 32) (d : Fin 64) : ℝ := (∑ t, X (row b t) d) * (1 / 64)

/-- The mean of all rows. -/
def gm (X : Mat) (d : Fin 64) : ℝ := (∑ r, X r d) * (1 / 2048)

/-- The score of key block `j` for query block `b`, from the blocks' means. -/
def est (Q K : Mat) (b j : Fin 32) : ℝ := (∑ d, bm Q b d * (bm K j d - gm K d)) * (1 / 8)

/-- The probability of key block `j` for query block `b`: the softmax of the scores. -/
def prob (Q K : Mat) (b j : Fin 32) : ℝ := Real.exp (est Q K b j) / ∑ l, Real.exp (est Q K b l)

/-- Block `l` comes before block `j`: more probable, or as probable and of lower number. -/
def Before (Q K : Mat) (b l j : Fin 32) : Prop := Order.Lex (fun i => -prob Q K b i) (· < ·) l j

open Classical in
/-- The probability of the blocks before `j`. -/
def mass (Q K : Mat) (b j : Fin 32) : ℝ := ∑ l, if Before Q K b l j then prob Q K b l else 0

/-- Block `j` is kept for query block `b`: the blocks before it have less probability than `1 - c`. -/
def Keep (Q K : Mat) (c : EReal) (b j : Fin 32) : Prop := (mass Q K b j : EReal) < 1 - c

/-- The score of key `j` for query `r`. -/
def score (Q K : Mat) (r j : Fin 2048) : ℝ := (∑ d, Q r d * K j d) * (1 / 8)

open Classical in
/-- The weight of key `j` for query `r`: the exponential of the score where the block is kept, else 0. -/
def wt (Q K : Mat) (c : EReal) (r j : Fin 2048) : ℝ :=
  if Keep Q K c (blk r) (blk j) then Real.exp (score Q K r j) else 0

/-- The attention: the weighted sum of the values over the sum of the weights. -/
def out (Q K : Mat) (V : Fin 2048 → Fin 64 → EReal) (c : EReal) (r : Fin 2048) (d : Fin 64) : EReal :=
  Ideal.div (∑ j, (wt Q K c r j : EReal) * V j d) ((∑ j, wt Q K c r j : ℝ) : EReal)

/-- The attention of every head. -/
def whole (Q K : Fin 12 → Mat) (V : (⟨4, ![1, 12, 2048, 64]⟩ : Shape).Idx → EReal) (c : (⟨1, ![12]⟩ : Shape).Idx → EReal) :
    (⟨4, ![1, 12, 2048, 64]⟩ : Shape).Idx → EReal :=
  fun i => out (Q (i 1)) (K (i 1)) (fun r d => V (ix4 0 (i 1) r d)) (c (ix1 (i 1))) (i 2) (i 3)

end Cert.Proof.Spec
-- ==== Proof.Consts.lean ====
/- The float constants of the two programs, as extended reals. -/
module

public import Idealize.ShloMosaic.Lib.Pointwise

@[expose] public section

namespace Cert.Proof.Consts

open Idealize.ShloMosaic

theorem c64 : Ideal.ofBits .f32 0x42800000#32 = ((64 : ℝ) : EReal) := by
  simp [Ideal.ofBits, Ideal.ieee, -EReal.coe_mul]; norm_num

theorem c2048 : Ideal.ofBits .f32 0x45000000#32 = ((2048 : ℝ) : EReal) := by
  simp [Ideal.ofBits, Ideal.ieee, -EReal.coe_mul]; norm_num

theorem c8th : Ideal.ofBits .f32 0x3E000000#32 = ((1 / 8 : ℝ) : EReal) := by
  simp [Ideal.ofBits, Ideal.ieee, -EReal.coe_mul]; norm_num

theorem cbot : Ideal.ofBits .f32 0xFF800000#32 = (⊥ : EReal) := by
  simp [Ideal.ofBits, Ideal.ieee]

theorem ctop : Ideal.ofBits .f32 0x7F800000#32 = (⊤ : EReal) := by
  simp [Ideal.ofBits, Ideal.ieee]

theorem cneg1 : Ideal.ofBits .f32 0xBF800000#32 = ((-1 : ℝ) : EReal) := by
  simp [Ideal.ofBits, Ideal.ieee, -EReal.coe_mul]; norm_num

/-- The small constant that the norms are increased by is a positive real. -/
theorem ceps : ∃ e : ℝ, 0 < e ∧ Ideal.ofBits .f32 0x358637BD#32 = (e : EReal) := by
  refine ⟨_, ?_, by simp [Ideal.ofBits, Ideal.ieee, -EReal.coe_mul]; rfl⟩
  norm_num

end Cert.Proof.Consts
-- ==== Proof.Soft.lean ====
/- Finite sums, maxima and quotients over the extended reals: a softmax does not depend on what is subtracted from its
   scores, and dividing the weights is dividing the weighted sum. -/
module

public import Idealize.ShloMosaic.Lib.Pointwise
public import Mathlib.Analysis.SpecialFunctions.Exp

@[expose] public section

namespace Cert.Proof.Soft

open Idealize.ShloMosaic

variable {ι : Type}

/-- A sum of reals, as an extended real. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of reals, as an extended real. -/
theorem coe_sum_mul (s : Finset ι) (f g : ι → ℝ) :
    ∑ i ∈ s, (f i : EReal) * (g i : EReal) = ((∑ i ∈ s, f i * g i : ℝ) : EReal) := by
  rw [← coe_sum]; simp only [EReal.coe_mul]

/-- A real divided by a nonzero real. -/
theorem div_coe_coe (x : ℝ) {y : ℝ} (h : y ≠ 0) : Ideal.div (x : EReal) (y : EReal) = ((x / y : ℝ) : EReal) := by
  rw [Ideal.div_coe h, ← EReal.coe_mul, mul_one_div]

/-- A sum of extended reals times a nonnegative real. -/
theorem sum_mul_coe (s : Finset ι) (x : ι → EReal) {a : ℝ} (ha : 0 ≤ a) :
    (∑ i ∈ s, x i) * (a : EReal) = ∑ i ∈ s, x i * (a : EReal) := by
  classical
  induction s using Finset.induction_on with
  | empty => simp
  | insert b s hb ih =>
    rw [Finset.sum_insert hb, Finset.sum_insert hb, ← ih, mul_comm,
      EReal.left_distrib_of_nonneg_of_ne_top (by exact_mod_cast ha) (EReal.coe_ne_top a), mul_comm, mul_comm (a : EReal)]

/-- The maximum of finitely many extended reals below `⊤`, one of them above `⊥`, is a real. -/
theorem fold_max_real [Fintype ι] (f : ι → EReal) (ht : ∀ i, f i ≠ ⊤) (hb : ∃ i, f i ≠ ⊥) :
    ∃ M : ℝ, Finset.univ.fold max (⊥ : EReal) f = (M : EReal) := by
  have hsup : Finset.univ.fold max (⊥ : EReal) f = Finset.univ.sup f := rfl
  obtain ⟨i, hi⟩ := hb
  have hne : (Finset.univ : Finset ι).Nonempty := ⟨i, Finset.mem_univ i⟩
  obtain ⟨k, -, hk⟩ := Finset.exists_mem_eq_sup Finset.univ hne f
  rw [hsup, hk]
  have hkb : f k ≠ ⊥ := fun h => hi (le_bot_iff.mp (by rw [← h, ← hk]; exact Finset.le_sup (Finset.mem_univ i)))
  exact ⟨(f k).toReal, (EReal.coe_toReal (ht k) hkb).symm⟩

/-- The minimum of finitely many extended reals is above a bound below all of them. -/
theorem lt_fold_min [Fintype ι] (f : ι → EReal) (b : EReal) (hb : b < ⊤) (h : ∀ i, b < f i) :
    b < Finset.univ.fold min (⊤ : EReal) f := by
  rw [Finset.lt_fold_min]
  exact ⟨hb, fun i _ => h i⟩

/-- The softmax of real scores, as the exponentials of the scores less their maximum over the sum of these. -/
theorem softmax_eq [Fintype ι] [Nonempty ι] (f : ι → ℝ) (i : ι) :
    Ideal.div (Ideal.exp ((f i : EReal) - Finset.univ.fold max (⊥ : EReal) fun k => (f k : EReal)))
        (∑ l, Ideal.exp ((f l : EReal) - Finset.univ.fold max (⊥ : EReal) fun k => (f k : EReal)))
      = ((Real.exp (f i) / ∑ l, Real.exp (f l) : ℝ) : EReal) := by
  obtain ⟨M, hM⟩ := fold_max_real (fun k => (f k : EReal)) (fun k => EReal.coe_ne_top _)
    ⟨i, EReal.coe_ne_bot _⟩
  rw [hM]
  simp only [← EReal.coe_sub, Ideal.exp_coe]
  rw [coe_sum]
  have hpos : 0 < ∑ l, Real.exp (f l) := Finset.sum_pos (fun l _ => Real.exp_pos _) Finset.univ_nonempty
  have hs : ∑ l, Real.exp (f l - M) = (∑ l, Real.exp (f l)) * Real.exp (-M) := by
    rw [Finset.sum_mul]; refine Finset.sum_congr rfl fun l _ => ?_
    rw [← Real.exp_add, sub_eq_add_neg]
  rw [hs, div_coe_coe _ (mul_pos hpos (Real.exp_pos _)).ne', sub_eq_add_neg, Real.exp_add,
    mul_div_mul_right _ _ (Real.exp_pos _).ne']

/-- Weights divided by their sum, times values, is the weighted sum of the values over the sum of the weights; a
    positive factor common to all weights does not matter. -/
theorem weighted_eq [Fintype ι] (w : ι → ℝ) (hw : ∀ i, 0 ≤ w i) (hpos : 0 < ∑ i, w i) (a : ℝ) (ha : 0 < a)
    (V : ι → EReal) :
    ∑ i, Ideal.div ((w i * a : ℝ) : EReal) (∑ l, ((w l * a : ℝ) : EReal)) * V i
      = Ideal.div (∑ i, (w i : EReal) * V i) ((∑ i, w i : ℝ) : EReal) := by
  rw [Ideal.div_coe hpos.ne', sum_mul_coe _ _ (one_div_pos.mpr hpos).le]
  refine Finset.sum_congr rfl fun i _ => ?_
  rw [coe_sum, ← Finset.sum_mul, div_coe_coe _ (mul_pos hpos ha).ne', mul_div_mul_right _ _ ha.ne', mul_right_comm,
    ← EReal.coe_mul, mul_one_div]

end Cert.Proof.Soft
-- ==== Proof.KernelBlock.lean ====
/- What the kernel's body computes from one head's blocks, at an index: the blocks that are kept, and the result. -/
module

public import proofs.«01_k».proof.Proof.Spec
public import proofs.«01_k».proof.Proof.Consts
public import proofs.«01_k».proof.Proof.Soft
public import proofs.«01_k».proof.Proof.Gen.KernelIdeal.Skeleton

@[expose] public section

set_option maxRecDepth 16384

noncomputable section

namespace Cert.Proof.KernelBlock

open Idealize.ShloMosaic Cert.KernelIdeal Cert.KernelIdeal.Gen Cert.Proof.Spec Cert.Proof.Soft

/-- The number of the block a row is in, as the body computes it: the signed quotient, less one where the signs differ
    and the remainder is not zero. -/
theorem blk_word (j : Fin 2048) :
    Scalar.select
      (IntOp.andi
        (IntOp.cmpi CmpIPredicate.ne
          (IntOp.subi (BitVec.setWidth 32 (IntOp.cmpi CmpIPredicate.sgt (BitVec.ofNat 32 ↑j) 0#32))
            (BitVec.setWidth 32 (IntOp.cmpi CmpIPredicate.slt (BitVec.ofNat 32 ↑j) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑j) 64#32) 0#32))
      (IntOp.subi (IntOp.divsi ArithUnit.vector (BitVec.ofNat 32 ↑j) 64#32) 1#32)
      (IntOp.divsi ArithUnit.vector (BitVec.ofNat 32 ↑j) 64#32) = BitVec.ofNat 32 (blk j) := by
  revert j
  decide +kernel

/-- The indicator of "row `j` is in block `b`". -/
theorem seg_apply (b : Fin 32) (j : Fin 2048) :
    k0_pay5 (F := Ideal) (ix2 b j) = ((if b = blk j then 1 else 0 : ℝ) : EReal) := by
  pointwise [k0_pay5]
  rw [blk_word]
  have h : ∀ a b : Fin 32, BitVec.setWidth 32 (IntOp.cmpi CmpIPredicate.eq (BitVec.ofNat 32 a) (BitVec.ofNat 32 b))
      = if a = b then 1#32 else 0#32 := by decide +kernel
  rw [h]
  split <;> simp [FloatOps.sitofp]

/-- The scores' product with the indicator picks the block that row `j` is in. -/
theorem bias_apply (x : Fin 32 → EReal) (hx : ∀ l, x l = 0 ∨ x l = ⊥) (j : Fin 2048) :
    ∑ l, x l * ((if l = blk j then 1 else 0 : ℝ) : EReal) = x (blk j) := by
  rw [Finset.sum_eq_single (blk j)]
  · simp
  · intro l _ hl; simp [hl]
  · simp

variable (Q K : Mat)

theorem qsum_apply (x2 : Vec Ideal S1x1x2048x64 .f32) (hQ : ∀ r d, x2 (ix4 0 0 r d) = (Q r d : EReal)) (b : Fin 32)
    (d : Fin 64) : k0_pay6 x2 (ix2 b d) = ((∑ t, Q (row b t) d : ℝ) : EReal) := by
  pointwise [k0_pay6, k0_pay2]
  rw [← coe_sum]
  exact Finset.sum_congr rfl fun t _ => hQ (row b t) d

open Classical in
/-- The body's comparison holds exactly for the kept blocks. -/
theorem keep_apply (v3 : FVec Ideal S2048x64 .f32) (v36 v37 : FVec Ideal S32x64 .f32) (c : EReal)
    (hK : ∀ r d, v3 (ix2 r d) = (K r d : EReal))
    (h36 : ∀ b d, v36 (ix2 b d) = ((∑ t, Q (row b t) d : ℝ) : EReal))
    (h37 : ∀ b d, v37 (ix2 b d) = ((64 : ℝ) : EReal)) (b j : Fin 32) :
    k0_pay8 (F := Ideal) v3 v36 v37 c (ix2 b j) = BitVec.ofBool (decide (Keep Q K c b j)) := by
  unfold k0_pay8
  dsimp only
  generalize hE : mulf (F := Ideal) (s := S32x32) _ _ = E
  have hE' : ∀ b j, E (ix2 b j) = (est Q K b j : EReal) := by
    intro b j
    rw [← hE]
    pointwise
    have hK' : ∀ (b : Fin 32) (t : Fin 64) (d : Fin 64) (h), v3 (ix2 ⟨b.val * 64 + t.val, h⟩ d) = (K (row b t) d : EReal) :=
      fun b t d _ => hK (row b t) d
    simp only [hK', hK, h36, h37, Consts.c64, Consts.c2048, Consts.c8th, coe_sum]
    simp only [Ideal.div_coe (show (64 : ℝ) ≠ 0 by norm_num), Ideal.div_coe (show (2048 : ℝ) ≠ 0 by norm_num),
      ← EReal.coe_mul, ← EReal.coe_sub, coe_sum]
    rfl
  clear hE
  generalize hp : divf (F := Ideal) (s := S32x32) _ _ = p
  have hp' : ∀ b j, p (ix2 b j) = (prob Q K b j : EReal) := by
    intro b j
    rw [← hp]
    pointwise
    simp only [hE', Consts.cbot]
    exact softmax_eq (est Q K b) j
  clear hp
  pointwise
  simp only [hp']
  have hb : ∀ l, Scalar.select
      (IntOp.ori (BitVec.ofBool (decide ((prob Q K b j : EReal) < (prob Q K b l : EReal))))
        (IntOp.andi (BitVec.ofBool (decide ((prob Q K b l : EReal) = (prob Q K b j : EReal))))
          (IntOp.cmpi CmpIPredicate.slt (BitVec.ofNat 32 (l : ℕ)) (BitVec.ofNat 32 (j : ℕ)))))
      (prob Q K b l : EReal) 0 = ((if Before Q K b l j then prob Q K b l else 0 : ℝ) : EReal) := by
    intro l
    have hlt : ∀ l j : Fin 32, IntOp.cmpi CmpIPredicate.slt (BitVec.ofNat 32 (l : ℕ)) (BitVec.ofNat 32 (j : ℕ))
        = BitVec.ofBool (decide (l < j)) := by decide +kernel
    have hB : Before Q K b l j ↔ (prob Q K b j < prob Q K b l ∨ (prob Q K b l = prob Q K b j ∧ l < j)) := by
      unfold Before Order.Lex
      simp only [neg_lt_neg_iff, neg_inj]
    rw [hlt]
    simp only [hB, EReal.coe_lt_coe_iff, EReal.coe_eq_coe_iff]
    by_cases h1 : prob Q K b j < prob Q K b l <;> by_cases h2 : prob Q K b l = prob Q K b j <;> by_cases h3 : l < j <;>
      simp [h1, h2, h3, Scalar.select, IntOp.ori, IntOp.andi]
  simp only [hb, coe_sum]
  exact congrArg BitVec.ofBool (decide_eq_decide.mpr Iff.rfl)

open Classical in
/-- The body's result at row `r` and column `d`: the attention. -/
theorem out_apply (x2 x3 x4 : Vec Ideal S1x1x2048x64 .f32) (c : EReal) (V : Fin 2048 → Fin 64 → EReal)
    (hQ : ∀ r d, x2 (ix4 0 0 r d) = (Q r d : EReal)) (hK : ∀ r d, x3 (ix4 0 0 r d) = (K r d : EReal))
    (hV : ∀ r d, x4 (ix4 0 0 r d) = V r d) (cst : Ideal .f32) (hcst : cst = (⊥ : EReal)) (r : Fin 2048) (d : Fin 64) :
    k0_pay1 (F := Ideal) (k0_pay2 x2) (k0_pay3 x3) (k0_pay4 x4) k0_pay5
      (k0_pay8 (k0_pay3 x3) (k0_pay6 x2) k0_pay7 c) cst k0_pay9 (ix4 0 0 r d) = out Q K V c r d := by
  have hQ' : ∀ r d, k0_pay2 x2 (ix2 r d) = (Q r d : EReal) := fun r d => by pointwise [k0_pay2]; exact hQ r d
  have hK' : ∀ r d, k0_pay3 x3 (ix2 r d) = (K r d : EReal) := fun r d => by pointwise [k0_pay3]; exact hK r d
  have hV' : ∀ r d, k0_pay4 x4 (ix2 r d) = V r d := fun r d => by pointwise [k0_pay4]; exact hV r d
  have h37 : ∀ b d, k0_pay7 (F := Ideal) (ix2 b d) = ((64 : ℝ) : EReal) := fun b d => by
    pointwise [k0_pay7]; exact Consts.c64
  have hkeep := keep_apply Q K (k0_pay3 x3) (k0_pay6 x2) k0_pay7 c hK' (qsum_apply Q x2 hQ) h37
  have h9 : ∀ b l, k0_pay9 (F := Ideal) (ix2 b l) = 0 := fun b l => by pointwise [k0_pay9]
  generalize k0_pay8 (k0_pay3 x3) (k0_pay6 x2) k0_pay7 c = v83 at hkeep
  generalize k0_pay2 x2 = v1 at hQ'
  generalize k0_pay3 x3 = v3 at hK'
  generalize k0_pay4 x4 = v5 at hV'
  have hs : ∀ b j, k0_pay5 (F := Ideal) (ix2 b j) = _ := seg_apply
  generalize k0_pay5 (F := Ideal) = v34 at hs
  generalize k0_pay9 (F := Ideal) = v84 at h9
  subst hcst
  pointwise [k0_pay1]
  simp only [hQ', hK', hV', hs, h9, hkeep, Consts.c8th]
  have hbias : ∀ x : Fin 2048, (∑ l, Scalar.select (BitVec.ofBool (decide (Keep Q K c (blk r) l))) (0 : EReal) ⊥
      * ((if l = blk x then 1 else 0 : ℝ) : EReal)) = if Keep Q K c (blk r) (blk x) then (0 : EReal) else ⊥ := by
    intro x
    rw [bias_apply _ (fun l => by by_cases h : Keep Q K c (blk r) l <;> simp [h, Scalar.select])]
    by_cases h : Keep Q K c (blk r) (blk x) <;> simp [h, Scalar.select]
  have hscore : ∀ x : Fin 2048, (∑ k, (Q r k : EReal) * ((1 / 8 : ℝ) : EReal) * (K x k : EReal))
      = (score Q K r x : EReal) := by
    intro x
    simp only [← EReal.coe_mul, coe_sum]
    unfold score
    rw [Finset.sum_mul]
    congr 1
    exact Finset.sum_congr rfl fun k _ => by ring
  have hex : ∀ x : Fin 2048, Ideal.exp ((score Q K r x : EReal) + if Keep Q K c (blk r) (blk x) then (0 : EReal) else ⊥)
      = (wt Q K c r x : EReal) := by
    intro x
    unfold wt
    by_cases h : Keep Q K c (blk r) (blk x) <;> simp [h]
  have hr : ∀ (h : r.val / 64 < 32), (⟨r.val / 64, h⟩ : Fin 32) = blk r := fun _ => rfl
  simp only [hr, hbias, hscore, hex, coe_sum]
  rfl

end Cert.Proof.KernelBlock
-- ==== Proof.KernelArray.lean ====
/- What the kernel's result array holds after the run: every head's attention. -/
module

public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.Proof.KernelArray

open Idealize.ShloMosaic Idealize.ShloMosaic.TcCoe Cert.KernelIdeal Cert.KernelIdeal.Gen Cert.Proof.Spec

/-- The mask is the least extended real. -/
theorem mask_bot : Named.named (F := Ideal) κ "mask" (φ := .f32) 0xCE6E6B28#32 = (⊥ : EReal) :=
  IdealRules.named_const.ideal_named_scalar _ _ _ _ rfl

theorem idx1 : ∀ t : Fin cfg0.N, win0_1.index t = ![0] := (by decide +kernel : ∀ t : Fin grid0.N, _)
theorem idx2 : ∀ t : Fin cfg0.N, win0_2.index t = ![0, t.val, 0, 0] := (by decide +kernel : ∀ t : Fin grid0.N, _)
theorem idx3 : ∀ t : Fin cfg0.N, win0_3.index t = ![0, t.val, 0, 0] := (by decide +kernel : ∀ t : Fin grid0.N, _)
theorem idx4 : ∀ t : Fin cfg0.N, win0_4.index t = ![0, t.val, 0, 0] := (by decide +kernel : ∀ t : Fin grid0.N, _)
theorem idx5 : ∀ t : Fin cfg0.N, win0_5.index t = ![0, t.val, 0, 0] := (by decide +kernel : ∀ t : Fin grid0.N, _)
theorem off1 : ∀ t : Fin cfg0.N, k0_off1 (grid0.coords t) = ![t.val] := (by decide +kernel : ∀ t : Fin grid0.N, _)

/-- The kernel's result array is the attention of every head, where the queries and the keys are reals. -/
theorem final (m : (ℓ : Loc nD τ sig) → Buf (Elt Ideal) ℓ) (c : Dev nD) (Q K : Fin 12 → Mat)
    (hQ : ∀ (h : Fin 12) (r : Fin 2048) (d : Fin 64), V m c main_arg0 (ix4 0 h r d) = (Q h r d : EReal))
    (hK : ∀ (h : Fin 12) (r : Fin 2048) (d : Fin 64), V m c main_arg1 (ix4 0 h r d) = (K h r d : EReal)) :
    (dats m 0 c).arrAt 5 cfg0.N = whole Q K (V m c main_arg2) (V m c main_arg4) := by
  refine (dats m 0 c).arrAt_eq_of_covers 5 _ (by decide +kernel) fun t hf y => ?_
  blk_simp
  rw [after0_5]
  unfold outsAt0
  frame_out
  obtain ⟨h, hh⟩ : ∃ h : Fin 12, h.val = t.val := ⟨⟨t.val, t.isLt⟩, rfl⟩
  obtain ⟨r, d, hy⟩ : ∃ (r : Fin 2048) (d : Fin 64), y = ix4 0 0 r d :=
    ⟨y 2, y 3, (eq_ix4 y).trans (by
      rw [Subsingleton.elim (α := Fin 1) (y 0) 0, Subsingleton.elim (α := Fin 1) (y 1) 0])⟩
  have h2 : ∀ (r : Fin 2048) (d : Fin 64), iblk m c 2 t (ix4 0 0 r d) = (Q h r d : EReal) := fun r d => by
    rw [← hQ]; blk_simp [iblk]; refine congrArg _ ?_; blk_ext [idx2 t, hh]
  have h3 : ∀ (r : Fin 2048) (d : Fin 64), iblk m c 3 t (ix4 0 0 r d) = (K h r d : EReal) := fun r d => by
    rw [← hK]; blk_simp [iblk]; refine congrArg _ ?_; blk_ext [idx3 t, hh]
  have h4 : ∀ (r : Fin 2048) (d : Fin 64), iblk m c 4 t (ix4 0 0 r d) = V m c main_arg2 (ix4 0 h r d) := fun r d => by
    blk_simp [iblk]; refine congrArg _ ?_; blk_ext [idx4 t, hh]
  have he : ((View.whole main_v0).slice (win0_5.rect t)).emb y = ix4 0 h r d := by
    subst hy; blk_ext [idx5 t, hh]
  rw [he, hy]
  refine (KernelBlock.out_apply (Q h) (K h) (iblk m c 2 t) (iblk m c 3 t) (iblk m c 4 t) _ _ h2 h3 h4 _ mask_bot r d).trans ?_
  refine congrArg (fun e => out (Q h) (K h) (fun r d => V m c main_arg2 (ix4 0 h r d)) e r d) ?_
  pointwise
  blk_simp [iblk]
  refine congrArg _ ?_
  blk_ext [idx1 t, off1 t, hh]

end Cert.Proof.KernelArray
-- ==== Proof.RefScore.lean ====
/- What the reference computes of the blocks, at an index: the centred keys, the means and the probabilities. -/
module

public import proofs.«01_k».proof.Proof.Spec
public import proofs.«01_k».proof.Proof.Consts
public import proofs.«01_k».proof.Proof.Soft
public import proofs.«01_k».proof.Proof.Gen.ReferenceIdeal.Run
public import Idealize.ShloMosaic.Lib.Tactic.CleanTypes

@[expose] public section

set_option maxRecDepth 16384

noncomputable section

namespace Cert.Proof.RefScore

open Idealize.ShloMosaic Cert.ReferenceIdeal Cert.ReferenceIdeal.Value Cert.Proof.Spec Cert.Proof.Soft

/-- One program's arrays, over the extended reals. -/
abbrev Arrays : Type := Valuation τ sig (Elt Ideal)

variable (V : Arrays) (Q K : Fin 12 → Mat)
  (hQ : ∀ (h : Fin 12) (r : Fin 2048) (d : Fin 64), V (Proc.devRef .tc main_arg0) (ix4 0 h r d) = (Q h r d : EReal))
  (hK : ∀ (h : Fin 12) (r : Fin 2048) (d : Fin 64), V (Proc.devRef .tc main_arg1) (ix4 0 h r d) = (K h r d : EReal))

include hK in
/-- The keys less their mean. -/
theorem v5_apply (h : Fin 12) (r : Fin 2048) (d : Fin 64) :
    res_main_v5 V (ix4 0 h r d) = ((K h r d - gm (K h) d : ℝ) : EReal) := by
  unfold res_main_v5
  clean_types
  pointwise
  simp only [hK, Consts.c2048, coe_sum, Ideal.div_coe (show (2048 : ℝ) ≠ 0 by norm_num), ← EReal.coe_mul, ← EReal.coe_sub]
  rfl

include hQ in
/-- The queries, by blocks. -/
theorem v6_apply (h : Fin 12) (b : Fin 32) (t d : Fin 64) :
    res_main_v6 V (ix5 0 h b t d) = (Q h (row b t) d : EReal) := by
  unfold res_main_v6
  clean_types
  pointwise
  exact hQ h (row b t) d

include hQ in
/-- The queries' block means. -/
theorem v9_apply (h : Fin 12) (b : Fin 32) (d : Fin 64) : res_main_v9 V (ix4 0 h b d) = (bm (Q h) b d : EReal) := by
  unfold res_main_v9
  have h6 := v6_apply V Q hQ
  generalize res_main_v6 V = v6 at h6
  clean_types
  pointwise
  simp only [h6, Consts.c64, coe_sum, Ideal.div_coe (show (64 : ℝ) ≠ 0 by norm_num), ← EReal.coe_mul]
  rfl

/-- The block mean of the centred keys is the block mean less the mean. -/
theorem mean_sub (X : Mat) (j : Fin 32) (d : Fin 64) :
    (∑ t, (X (row j t) d - gm X d)) * (1 / 64) = bm X j d - gm X d := by
  rw [Finset.sum_sub_distrib, Finset.sum_const, Finset.card_univ, Fintype.card_fin, nsmul_eq_mul]
  unfold bm
  push_cast
  ring

include hQ hK in
/-- The scores of the blocks. -/
theorem v34_apply (h : Fin 12) (b j : Fin 32) : res_main_v34 V (ix4 0 h b j) = (est (Q h) (K h) b j : EReal) := by
  unfold res_main_v34
  have h5 : ∀ (h : Fin 12) (j : Fin 32) (t d : Fin 64) (hlt), res_main_v5 V (ix4 0 h ⟨j.val * 64 + t.val, hlt⟩ d) = _ :=
    fun h j t d _ => v5_apply V K hK h (row j t) d
  have h9 := v9_apply V Q hQ
  generalize res_main_v5 V = v5 at h5
  generalize res_main_v9 V = v9 at h9
  clean_types
  pointwise
  simp only [h5, h9, Consts.c64, Consts.c8th, coe_sum, Ideal.div_coe (show (64 : ℝ) ≠ 0 by norm_num), ← EReal.coe_mul,
    mean_sub]
  rfl

include hQ hK in
/-- The probabilities of the blocks. -/
theorem v45_apply (h : Fin 12) (b j : Fin 32) : res_main_v45 V (ix4 0 h b j) = (prob (Q h) (K h) b j : EReal) := by
  unfold res_main_v45 res_main_v41
  have h34 := v34_apply V Q K hQ hK
  generalize res_main_v34 V = v34 at h34
  clean_types
  pointwise
  simp only [h34, Consts.cbot, bot_sup_eq, max_bot_left, bot_le, max_eq_right]
  exact softmax_eq (est (Q h) (K h) b) j

include hQ hK in
/-- The sort's keys: the probabilities negated. -/
theorem v46_apply (h : Fin 12) (b j : Fin 32) : res_main_v46 V (ix4 0 h b j) = ((-prob (Q h) (K h) b j : ℝ) : EReal) := by
  unfold res_main_v46
  have h45 := v45_apply V Q K hQ hK
  generalize res_main_v45 V = v45 at h45
  clean_types
  pointwise
  rw [h45, EReal.coe_neg]

end Cert.Proof.RefScore
-- ==== Proof.HostOps.lean ====
/- The reference's sorts, gathers and prefix sums along the last axis, read at an index. -/
module

public import proofs.«01_k».proof.Proof.Order
public import proofs.«01_k».proof.Proof.Soft
public import proofs.«01_k».proof.ReferenceIdeal
public import Idealize.ShloMosaic.Lib.Pointwise

@[expose] public section

set_option maxRecDepth 16384

noncomputable section

namespace Cert.Proof.HostOps

open Idealize.ShloMosaic Cert.ReferenceIdeal

variable [Facts]

/-- Changing the last coordinate of an index. -/
theorem along_last (z : Fin 1) (h : Fin 12) (b j k : Fin 32) :
    Shape.Idx.along (s := S1x12x32x32) (ix4 z h b j) 3 k = ix4 z h b k := by
  funext a
  unfold Shape.Idx.along
  match a with
  | ⟨0, _⟩ => rfl
  | ⟨1, _⟩ => rfl
  | ⟨2, _⟩ => rfl
  | ⟨3, _⟩ => exact Function.update_self (β := S1x12x32x32.Coord) (3 : Fin 4) k (ix4 z h b j)

/-- The second operand of a sort along the last axis, where the comparison is by the key of the first. -/
theorem sort_snd {α β κ : Type} [LinearOrder κ] (cmp : α × β → α × β → BitVec 1) (x : S1x12x32x32.Idx → α)
    (y : S1x12x32x32.Idx → β) (z : Fin 1) (h : Fin 12) (b j : Fin 32) (key : Fin 32 → κ)
    (hcmp : ∀ k k', cmp (x (ix4 z h b k), y (ix4 z h b k)) (x (ix4 z h b k'), y (ix4 z h b k'))
      = BitVec.ofBool (decide (key k < key k'))) :
    (Host.sort2 S1x12x32x32 3 cmp x y).2 (ix4 z h b j) = y (ix4 z h b (Order.order key j)) := by
  have hcmp' : (fun k k' : Fin 32 => cmp (x (ix4 z h b k), y (ix4 z h b k)) (x (ix4 z h b k'), y (ix4 z h b k')) == 1#1)
      = fun k k' => decide (key k < key k') := by
    funext k k'
    rw [hcmp]
    by_cases hk : key k < key k' <;> simp [hk]
  have h1 : (Host.sort2 S1x12x32x32 3 cmp x y).2 (ix4 z h b j)
      = y (Shape.Idx.along (s := S1x12x32x32) (ix4 z h b j) 3
          (sortedFrom (fun k k' : Fin 32 =>
            cmp (x (Shape.Idx.along (s := S1x12x32x32) (ix4 z h b j) 3 k), y (Shape.Idx.along (s := S1x12x32x32) (ix4 z h b j) 3 k))
              (x (Shape.Idx.along (s := S1x12x32x32) (ix4 z h b j) 3 k'), y (Shape.Idx.along (s := S1x12x32x32) (ix4 z h b j) 3 k'))
              == 1#1) j)) := rfl
  rw [h1]
  simp only [along_last]
  rw [hcmp']
  exact congrArg y (along_last z h b j _)

/-- A gather along the last axis: the operand's entry at the position that the index word holds. -/
theorem gather_last {α : Type} (x : S1x12x32x32.Idx → α) (idx : IVec S12x32x32x1 32) (z : Fin 1) (h : Fin 12)
    (b j l : Fin 32) (hidx : idx (ix4 h b j 0) = BitVec.ofNat 32 l.val) :
    Host.gather gather_S1x12x32x32_S12x32x32x1_S1x12x32x32_0_3_12_01_3_3_1111 x idx (ix4 z h b j) = x (ix4 z h b l) := by
  refine congrArg x (funext fun a => Fin.ext ?_)
  have hsi : ∀ c, GatherDims.siIdx gather_S1x12x32x32_S12x32x32x1_S1x12x32x32_0_3_12_01_3_3_1111 (ix4 z h b j) c
      = ix4 h b j 0 := by
    intro c
    funext a
    match a with
    | ⟨0, _⟩ => rfl
    | ⟨1, _⟩ => rfl
    | ⟨2, _⟩ => rfl
    | ⟨3, _⟩ => exact Subsingleton.elim (α := Fin 1) _ _
  have hl : ∀ l : Fin 32, min (BitVec.ofNat 32 l.val).toInt.toNat (32 - 1) = l.val := by decide +kernel
  match a with
  | ⟨0, _⟩ =>
    show 0 + 0 + z.val = z.val
    omega
  | ⟨1, _⟩ =>
    show 0 + h.val + 0 = h.val
    omega
  | ⟨2, _⟩ =>
    show 0 + b.val + 0 = b.val
    omega
  | ⟨3, _⟩ =>
    show min (idx (GatherDims.siIdx gather_S1x12x32x32_S12x32x32x1_S1x12x32x32_0_3_12_01_3_3_1111 (ix4 z h b j) ⟨0, _⟩)).toInt.toNat
      (32 - 1) + 0 + 0 = l.val
    rw [hsi, hidx, hl]
    rfl

/-- A left fold of sums is the sum. -/
theorem foldl_add {n : ℕ} (g : Fin n → EReal) (v : EReal) :
    (List.finRange n).foldl (fun r i => r + g i) v = v + ∑ i, g i := by
  have h : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [h, Fin.sum_univ_def]

/-- A window of 32 that ends at `j`, entries before the first being zero, sums the entries up to `j`. -/
theorem sum_window (f : Fin 32 → EReal) (j : Fin 32) :
    (∑ k : Fin 32, if hk : 31 ≤ j.val + k.val ∧ j.val + k.val - 31 < 32 then f ⟨j.val + k.val - 31, hk.2⟩ else 0)
      = ∑ k, if k ≤ j then f k else 0 := by
  rw [← Finset.sum_filter]
  have h1 : (∑ k : Fin 32, if hk : 31 ≤ j.val + k.val ∧ j.val + k.val - 31 < 32 then f ⟨j.val + k.val - 31, hk.2⟩ else 0)
      = ∑ k ∈ Finset.univ.filter (fun k : Fin 32 => 31 ≤ j.val + k.val), f ⟨(j.val + k.val - 31) % 32, Nat.mod_lt _ (by omega)⟩ := by
    rw [Finset.sum_filter]
    refine Finset.sum_congr rfl fun k _ => ?_
    by_cases hk : 31 ≤ j.val + k.val
    · have h2 : j.val + k.val - 31 < 32 := by omega
      rw [dif_pos ⟨hk, h2⟩, if_pos hk]
      exact congrArg f (Fin.ext (Nat.mod_eq_of_lt h2).symm)
    · rw [dif_neg fun h => hk h.1, if_neg hk]
  rw [h1]
  refine Finset.sum_nbij' (fun k => ⟨(j.val + k.val - 31) % 32, Nat.mod_lt _ (by omega)⟩)
    (fun k => ⟨(k.val + 31 - j.val) % 32, Nat.mod_lt _ (by omega)⟩) ?_ ?_ ?_ ?_ fun _ _ => rfl
  · intro k hk
    simp only [Finset.mem_filter, Finset.mem_univ, true_and, Fin.le_def] at hk ⊢
    omega
  · intro k hk
    simp only [Finset.mem_filter, Finset.mem_univ, true_and, Fin.le_def] at hk ⊢
    omega
  · intro k hk
    simp only [Finset.mem_filter, Finset.mem_univ, true_and, Fin.le_def] at hk ⊢
    apply Fin.ext
    simp only
    omega
  · intro k hk
    simp only [Finset.mem_filter, Finset.mem_univ, true_and, Fin.le_def] at hk ⊢
    apply Fin.ext
    simp only
    omega

/-- The prefix sum along the last axis. -/
theorem cumsum_last (x : FVec Ideal S1x12x32x32 .f32) (init : FVec Ideal S_ .f32) (hinit : ∀ i, init i = (0 : EReal))
    (z : Fin 1) (h : Fin 12) (b j : Fin 32)
    (hw : S1x12x32x32.ReduceWindows ![1, 1, 1, 32] ![1, 1, 1, 1] ![0, 0, 0, 31] ![0, 0, 0, 0] S1x12x32x32) (hu : 0 < S_.numel) :
    Host.reduceWindowAdd ![1, 1, 1, 32] ![1, 1, 1, 1] ![0, 0, 0, 31] ![0, 0, 0, 0] x init hw hu (ix4 z h b j)
      = (∑ k, if k ≤ j then x (ix4 z h b k) else 0 : EReal) := by
  unfold Host.reduceWindowAdd
  rw [hinit]
  refine (foldl_add (fun n => _) 0).trans ?_
  rw [zero_add, ← sum_window (fun k => x (ix4 z h b k)) j]
  refine (Fintype.sum_equiv (Shape.rowMajor ⟨4, ![1, 1, 1, 32]⟩).symm _ (fun w : (⟨4, ![1, 1, 1, 32]⟩ : Shape).Idx =>
    if hk : 31 ≤ j.val + (w 3).val ∧ j.val + (w 3).val - 31 < 32 then x (ix4 z h b ⟨j.val + (w 3).val - 31, hk.2⟩) else 0) ?_).trans ?_
  · intro n
    have w0 : ((Shape.rowMajor ⟨4, ![1, 1, 1, 32]⟩).symm n 0).val < 1 := ((Shape.rowMajor ⟨4, ![1, 1, 1, 32]⟩).symm n 0).isLt
    have w1 : ((Shape.rowMajor ⟨4, ![1, 1, 1, 32]⟩).symm n 1).val < 1 := ((Shape.rowMajor ⟨4, ![1, 1, 1, 32]⟩).symm n 1).isLt
    have w2 : ((Shape.rowMajor ⟨4, ![1, 1, 1, 32]⟩).symm n 2).val < 1 := ((Shape.rowMajor ⟨4, ![1, 1, 1, 32]⟩).symm n 2).isLt
    split
    · rename_i hin
      have h3 := hin 3
      change 31 ≤ j.val * 1 + ((Shape.rowMajor ⟨4, ![1, 1, 1, 32]⟩).symm n 3).val
        ∧ j.val * 1 + ((Shape.rowMajor ⟨4, ![1, 1, 1, 32]⟩).symm n 3).val - 31 < 32 at h3
      rw [Nat.mul_one] at h3
      rw [dif_pos h3]
      refine congrArg x (funext fun a => Fin.ext ?_)
      match a with
      | ⟨0, _⟩ =>
        show z.val * 1 + ((Shape.rowMajor ⟨4, ![1, 1, 1, 32]⟩).symm n 0).val - 0 = z.val
        omega
      | ⟨1, _⟩ =>
        show h.val * 1 + ((Shape.rowMajor ⟨4, ![1, 1, 1, 32]⟩).symm n 1).val - 0 = h.val
        omega
      | ⟨2, _⟩ =>
        show b.val * 1 + ((Shape.rowMajor ⟨4, ![1, 1, 1, 32]⟩).symm n 2).val - 0 = b.val
        omega
      | ⟨3, _⟩ =>
        show j.val * 1 + ((Shape.rowMajor ⟨4, ![1, 1, 1, 32]⟩).symm n 3).val - 31
          = j.val + ((Shape.rowMajor ⟨4, ![1, 1, 1, 32]⟩).symm n 3).val - 31
        rw [Nat.mul_one]
    · rename_i hin
      rw [dif_neg fun h3 => hin fun a => by
        match a with
        | ⟨0, _⟩ =>
          show 0 ≤ z.val * 1 + ((Shape.rowMajor ⟨4, ![1, 1, 1, 32]⟩).symm n 0).val
            ∧ z.val * 1 + ((Shape.rowMajor ⟨4, ![1, 1, 1, 32]⟩).symm n 0).val - 0 < 1
          omega
        | ⟨1, _⟩ =>
          show 0 ≤ h.val * 1 + ((Shape.rowMajor ⟨4, ![1, 1, 1, 32]⟩).symm n 1).val
            ∧ h.val * 1 + ((Shape.rowMajor ⟨4, ![1, 1, 1, 32]⟩).symm n 1).val - 0 < 12
          omega
        | ⟨2, _⟩ =>
          show 0 ≤ b.val * 1 + ((Shape.rowMajor ⟨4, ![1, 1, 1, 32]⟩).symm n 2).val
            ∧ b.val * 1 + ((Shape.rowMajor ⟨4, ![1, 1, 1, 32]⟩).symm n 2).val - 0 < 32
          omega
        | ⟨3, _⟩ =>
          show 31 ≤ j.val * 1 + ((Shape.rowMajor ⟨4, ![1, 1, 1, 32]⟩).symm n 3).val
            ∧ j.val * 1 + ((Shape.rowMajor ⟨4, ![1, 1, 1, 32]⟩).symm n 3).val - 31 < 32
          rw [Nat.mul_one]
          exact h3]
  · rw [sum_idx4]
    simp
    rfl

end Cert.Proof.HostOps
-- ==== Proof.RefOrder.lean ====
/- The reference's choice of blocks: the order of the probabilities, the mass before each block, and the test. -/
module

public import proofs.«01_k».proof.Proof.RefScore
public import proofs.«01_k».proof.Proof.HostOps

@[expose] public section

set_option maxRecDepth 16384

noncomputable section

namespace Cert.Proof.RefOrder

open Idealize.ShloMosaic Cert.ReferenceIdeal Cert.ReferenceIdeal.Gen Cert.ReferenceIdeal.Value Cert.Proof.Spec Cert.Proof.Soft
  Cert.Proof.RefScore

variable (V : Arrays) (Q K : Fin 12 → Mat)
  (hQ : ∀ (h : Fin 12) (r : Fin 2048) (d : Fin 64), V (Proc.devRef .tc main_arg0) (ix4 0 h r d) = (Q h r d : EReal))
  (hK : ∀ (h : Fin 12) (r : Fin 2048) (d : Fin 64), V (Proc.devRef .tc main_arg1) (ix4 0 h r d) = (K h r d : EReal))

/-- The key that a row of blocks is sorted by. -/
abbrev key (Q K : Fin 12 → Mat) (h : Fin 12) (b : Fin 32) : Fin 32 → ℝ := fun i => -prob (Q h) (K h) b i

/-- The sort's comparison of two real keys. -/
theorem compare_real (a a' : ℝ) (x x' : BitVec 32) :
    comparator_f32_i32_d3 (F := Ideal) ((a : EReal), x) ((a' : EReal), x') = BitVec.ofBool (decide (a < a')) := by
  have hz : ∀ y : EReal, Scalar.select (FloatOps.cmpf (F := Ideal) (φ := .f32) .oeq y (FloatOps.ofBits (F := Ideal) .f32 0x00000000#32))
      (FloatOps.ofBits (F := Ideal) .f32 0x00000000#32) y = y := by
    intro y
    show (if BitVec.ofBool (decide (y = Ideal.ofBits .f32 0x00000000#32)) = 1#1 then Ideal.ofBits .f32 0x00000000#32 else y) = y
    generalize Ideal.ofBits .f32 0x00000000#32 = z
    by_cases h : y = z <;> simp [h]
  have hn : ∀ y n z : EReal, Scalar.select (FloatOps.cmpf (F := Ideal) (φ := .f32) .une y y) n z = z := by
    intro y n z
    show (if BitVec.ofBool (decide (y ≠ y)) = 1#1 then n else z) = z
    simp
  unfold comparator_f32_i32_d3
  simp only
  rw [hn, hn, hz, hz]
  show BitVec.ofBool (decide ((a : EReal) < (a' : EReal))) = _
  exact congrArg BitVec.ofBool (decide_eq_decide.mpr EReal.coe_lt_coe_iff)

include hQ hK in
/-- The sorted positions: entry `j` is the block that stands at `j` in the order. -/
theorem v47_apply (h : Fin 12) (b j : Fin 32) :
    res_main_v47 V (ix4 0 h b j) = BitVec.ofNat 32 (Order.order (key Q K h b) j).val := by
  unfold res_main_v47
  refine (HostOps.sort_snd _ _ _ 0 h b j (key Q K h b) fun k k' => ?_).trans ?_
  · rw [v46_apply V Q K hQ hK, v46_apply V Q K hQ hK]
    exact compare_real _ _ _ _
  · rfl

/-- Words below 32 are not negative. -/
theorem not_slt (l : Fin 32) : (if IntOp.cmpi .slt (BitVec.ofNat 32 l.val) 0#32 = 1#1 then BitVec.ofNat 32 l.val + 32#32
    else BitVec.ofNat 32 l.val) = BitVec.ofNat 32 l.val := by
  revert l; decide +kernel

/-- Words below 32 pass the range test. -/
theorem in_range (l : Fin 32) : IntOp.andi (IntOp.cmpi .sge (BitVec.ofNat 32 l.val) 0#32)
    (IntOp.cmpi .sle (BitVec.ofNat 32 l.val) 31#32) = 1#1 := by
  revert l; decide +kernel

/-- The comparison of two words below 32 is the comparison of the numbers. -/
theorem slt_iff (l k : Fin 32) : IntOp.cmpi .slt (BitVec.ofNat 32 l.val) (BitVec.ofNat 32 k.val)
    = BitVec.ofBool (decide (l < k)) := by
  revert l k; decide +kernel

include hQ hK in
/-- The positions as the gather takes them. -/
theorem call3_v5_apply (h : Fin 12) (b j : Fin 32) :
    res_main_call3_v5 V (ix4 h b j 0) = BitVec.ofNat 32 (Order.order (key Q K h b) j).val := by
  unfold res_main_call3_v5
  have h47 := v47_apply V Q K hQ hK
  generalize res_main_v47 V = v47 at h47
  clean_types
  pointwise
  simp only [h47]
  exact not_slt _

/-- The range test of one gathered position below 32. -/
theorem range_test (p : Fin 1 → BitVec 32) (l : Fin 32) (hp : p 0 = BitVec.ofNat 32 l.val) :
    Finset.univ.fold IntOp.andi 1#1 (fun x => IntOp.andi (IntOp.cmpi .sge (p x) 0#32) (IntOp.cmpi .sle (p x) 31#32)) = 1#1 := by
  rw [Finset.univ_unique, Finset.fold_singleton]
  show IntOp.andi (IntOp.andi (IntOp.cmpi .sge (p 0) 0#32) (IntOp.cmpi .sle (p 0) 31#32)) 1#1 = 1#1
  rw [hp, in_range]
  rfl

include hQ hK in
/-- The probabilities in order. -/
theorem v48_apply (h : Fin 12) (b j : Fin 32) :
    res_main_v48 V (ix4 0 h b j) = (prob (Q h) (K h) b (Order.order (key Q K h b) j) : EReal) := by
  unfold res_main_v48
  have hg := HostOps.gather_last (res_main_v45 V) (res_main_call3_v5 V) 0 h b j _ (call3_v5_apply V Q K hQ hK h b j)
  rw [v45_apply V Q K hQ hK] at hg
  have h3 := call3_v5_apply V Q K hQ hK h b j
  generalize hG : Host.gather gather_S1x12x32x32_S12x32x32x1_S1x12x32x32_0_3_12_01_3_3_1111 (res_main_v45 V) (res_main_call3_v5 V) = G
    at hg
  generalize res_main_call3_v5 V = p3 at h3
  clean_types
  pointwise
  rw [range_test (fun x => p3 (ix4 h b j x)) _ h3, hg]
  rfl

include hQ hK in
/-- The positions of the blocks in the order. -/
theorem v56_apply (h : Fin 12) (b j : Fin 32) :
    res_main_v56 V (ix4 0 h b j) = BitVec.ofNat 32 (Order.rank (key Q K h b) j).val := by
  unfold res_main_v56
  refine (HostOps.sort_snd _ _ _ 0 h b j (Order.order (key Q K h b)) fun k k' => ?_).trans ?_
  · rw [v47_apply V Q K hQ hK, v47_apply V Q K hQ hK]
    exact slt_iff _ _
  · rfl

include hQ hK in
/-- The positions as the gather takes them. -/
theorem call6_v5_apply (h : Fin 12) (b j : Fin 32) :
    res_main_call6_v5 V (ix4 h b j 0) = BitVec.ofNat 32 (Order.rank (key Q K h b) j).val := by
  unfold res_main_call6_v5
  have h56 := v56_apply V Q K hQ hK
  generalize res_main_v56 V = v56 at h56
  clean_types
  pointwise
  simp only [h56]
  exact not_slt _

end Cert.Proof.RefOrder
-- ==== Proof.Cosine.lean ====
/- The cosine of two vectors, with a positive amount added to each norm, is above -1. -/
module

public import Mathlib.Analysis.SpecialFunctions.Pow.Real
public import Mathlib.Algebra.Order.BigOperators.Ring.Finset
public import Mathlib.Analysis.MeanInequalities

@[expose] public section

namespace Cert.Proof.Cosine

/-- The Euclidean norm. -/
noncomputable def norm {n : ℕ} (x : Fin n → ℝ) : ℝ := Real.sqrt (∑ d, x d * x d)

theorem norm_nonneg {n : ℕ} (x : Fin n → ℝ) : 0 ≤ norm x := Real.sqrt_nonneg _

/-- By the Cauchy-Schwarz inequality the sum of the products of two vectors, each divided by its norm plus `e > 0`, is
    above -1. -/
theorem neg_one_lt {n : ℕ} (x y : Fin n → ℝ) {e : ℝ} (he : 0 < e) :
    -1 < ∑ d, x d / (norm x + e) * (y d / (norm y + e)) := by
  have hA := norm_nonneg x
  have hB := norm_nonneg y
  have hsum : ∑ d, x d / (norm x + e) * (y d / (norm y + e)) = (∑ d, x d * y d) / ((norm x + e) * (norm y + e)) := by
    rw [Finset.sum_div]; refine Finset.sum_congr rfl fun d _ => ?_
    rw [div_mul_div_comm]
  have hD : 0 < (norm x + e) * (norm y + e) := by positivity
  rw [hsum, lt_div_iff₀ hD]
  have hcs : (∑ d, x d * y d) ^ 2 ≤ (∑ d, x d ^ 2) * ∑ d, y d ^ 2 := Finset.sum_mul_sq_le_sq_mul_sq _ _ _
  have hx : ∑ d, x d ^ 2 = norm x ^ 2 := by
    unfold norm
    rw [Real.sq_sqrt (Finset.sum_nonneg fun d _ => mul_self_nonneg _)]
    exact Finset.sum_congr rfl fun d _ => sq _
  have hy : ∑ d, y d ^ 2 = norm y ^ 2 := by
    unfold norm
    rw [Real.sq_sqrt (Finset.sum_nonneg fun d _ => mul_self_nonneg _)]
    exact Finset.sum_congr rfl fun d _ => sq _
  rw [hx, hy, ← mul_pow] at hcs
  have habs := abs_le_of_sq_le_sq' hcs (mul_nonneg hA hB)
  nlinarith [habs.1, mul_nonneg hA he.le, mul_nonneg hB he.le, mul_pos he he]

end Cert.Proof.Cosine
-- ==== Proof.RefMask.lean ====
/- The reference's masked scores at an index. -/
module

public import proofs.«01_k».proof.Proof.RefOrder
public import proofs.«01_k».proof.Proof.Cosine

@[expose] public section

set_option maxRecDepth 16384

noncomputable section

namespace Cert.Proof.RefMask

open Idealize.ShloMosaic Cert.ReferenceIdeal Cert.ReferenceIdeal.Gen Cert.ReferenceIdeal.Value Cert.Proof.Spec Cert.Proof.Soft
  Cert.Proof.RefScore Cert.Proof.RefOrder

variable (V : Arrays) (Q K : Fin 12 → Mat)
  (hQ : ∀ (h : Fin 12) (r : Fin 2048) (d : Fin 64), V (Proc.devRef .tc main_arg0) (ix4 0 h r d) = (Q h r d : EReal))
  (hK : ∀ (h : Fin 12) (r : Fin 2048) (d : Fin 64), V (Proc.devRef .tc main_arg1) (ix4 0 h r d) = (K h r d : EReal))
  (hs : ∀ h : Fin 12, @LE.le EReal _ (V (Proc.devRef .tc main_arg3) (ix1 h)) ((-1 : ℝ) : EReal))

open Classical in
/-- The mass before a block, as the reference's prefix sum gives it. -/
theorem mass_eq (h : Fin 12) (b j : Fin 32) :
    (∑ k, if k ≤ Order.rank (key Q K h b) j then (prob (Q h) (K h) b (Order.order (key Q K h b) k) : EReal) else 0)
      - (prob (Q h) (K h) b (Order.order (key Q K h b) (Order.rank (key Q K h b) j)) : EReal)
      = (mass (Q h) (K h) b j : EReal) := by
  have h1 : ∀ k : Fin 32, (if k ≤ Order.rank (key Q K h b) j then (prob (Q h) (K h) b (Order.order (key Q K h b) k) : EReal) else 0)
      = ((if k ≤ Order.rank (key Q K h b) j then prob (Q h) (K h) b (Order.order (key Q K h b) k) else 0 : ℝ) : EReal) := by
    intro k
    split <;> simp
  rw [Finset.sum_congr rfl fun k _ => h1 k, coe_sum, ← EReal.coe_sub]
  refine congrArg Real.toEReal ?_
  rw [Order.prefix_sub_eq]
  unfold mass
  rfl

/-- The constant one. -/
theorem c1 : Ideal.ofBits .f32 0x3F800000#32 = (1 : EReal) := by
  simp [Ideal.ofBits, Ideal.ieee, -EReal.coe_mul]; norm_num

/-- The cosines of a block's rows with the block's mean are all above -1. -/
theorem cosines (X : Mat) (b : Fin 32) (e : ℝ) (he : 0 < e) (s : EReal) (hs : s ≤ ((-1 : ℝ) : EReal)) :
    s < Finset.univ.fold min (⊤ : EReal) fun t : Fin 64 => ∑ d : Fin 64,
      Ideal.div (X (row b t) d : EReal) (Ideal.sqrt (∑ d, (X (row b t) d : EReal) * (X (row b t) d : EReal)) + (e : EReal))
        * Ideal.div (bm X b d : EReal) (Ideal.sqrt (∑ d, (bm X b d : EReal) * (bm X b d : EReal)) + (e : EReal)) := by
  refine lt_of_le_of_lt hs (lt_fold_min _ _ (EReal.coe_lt_top _) fun t => ?_)
  have hnorm : ∀ y : Fin 64 → ℝ, Ideal.sqrt (∑ d, (y d : EReal) * (y d : EReal)) = (Cosine.norm y : EReal) := by
    intro y
    rw [coe_sum_mul, Ideal.sqrt_coe, if_neg (not_lt.mpr (Finset.sum_nonneg fun d _ => mul_self_nonneg _))]
    rfl
  rw [hnorm (fun d => X (row b t) d), hnorm (fun d => bm X b d)]
  have h1 := (add_pos_of_nonneg_of_pos (Cosine.norm_nonneg (fun d => X (row b t) d)) he).ne'
  have h2 := (add_pos_of_nonneg_of_pos (Cosine.norm_nonneg (fun d => bm X b d)) he).ne'
  simp only [← EReal.coe_add, div_coe_coe _ h1, div_coe_coe _ h2]
  rw [coe_sum_mul]
  exact EReal.coe_lt_coe_iff.mpr (Cosine.neg_one_lt (fun d => X (row b t) d) (fun d => bm X b d) he)

set_option maxHeartbeats 1600000 in
include hQ hK hs in
open Classical in
/-- The masked scores. -/
theorem v69_apply (h : Fin 12) (r k : Fin 2048) :
    (res_main_v69 V (ix4 0 h r k) : EReal)
      = if Keep (Q h) (K h) (V (Proc.devRef .tc main_arg4) (ix1 h)) (blk r) (blk k) then
        (((∑ d, Q h r d * (K h k d - gm (K h) d)) * (1 / 8) : ℝ) : EReal) else ⊥ := by
  unfold res_main_v69
  generalize hN : noti (s := S1x12x32) _ = N
  generalize hC : cmpf (F := Ideal) (s := S1x12x32x32) .olt _ _ = C
  generalize hG : Host.gather gather_S1x12x32x32_S12x32x32x1_S1x12x32x32_0_3_12_01_3_3_1111 C (res_main_call6_v5 V) = G
  have hP := call6_v5_apply V Q K hQ hK
  have hk := v5_apply V K hK
  have hG' : ∀ (b j : Fin 32), G (ix4 0 h b j) = C (ix4 0 h b (Order.rank (key Q K h b) j)) := fun b j => by
    rw [← hG]; exact HostOps.gather_last _ _ _ _ _ _ _ (hP h b j)
  have hC' : ∀ (b j : Fin 32), C (ix4 0 h b (Order.rank (key Q K h b) j))
      = BitVec.ofBool (decide (Keep (Q h) (K h) (V (Proc.devRef .tc main_arg4) (ix1 h)) b j)) := fun b j => by
    rw [← hC]
    generalize hS : Host.reduceWindowAdd (F := Ideal) (s := S1x12x32x32) _ _ _ _ _ _ _ _ = S
    have hS' : ∀ l, S (ix4 0 h b l) = (∑ k, if k ≤ l then (prob (Q h) (K h) b (Order.order (key Q K h b) k) : EReal) else 0 : EReal) := by
      intro l
      rw [← hS]
      refine (HostOps.cumsum_last _ _ (fun i => ?_) 0 h b l _ _).trans ?_
      · clear hS hG hC hN
        pointwise
      · refine Finset.sum_congr rfl fun k _ => ?_
        rw [v48_apply V Q K hQ hK]
    clear hS hG hC hN
    have h48 := v48_apply V Q K hQ hK
    generalize res_main_v48 V = v48 at h48
    clean_types
    pointwise
    rw [hS', h48]
    refine congrArg BitVec.ofBool (decide_eq_decide.mpr ?_)
    rw [mass_eq]
    exact Iff.rfl
  have hN' : ∀ b : Fin 32, N (ix3 0 h b) = 0#1 := fun b => by
    rw [← hN]
    clear hG hC hN
    have h6 := v6_apply V Q hQ
    have h9 := v9_apply V Q hQ
    generalize res_main_v6 V = v6 at h6
    generalize res_main_v9 V = v9 at h9
    clean_types
    pointwise
    obtain ⟨e, he, heq⟩ := Consts.ceps
    simp only [h6, h9, Consts.ctop, heq]
    rw [decide_eq_true (cosines (Q h) b e he _ (hs h))]
    rfl
  clear hN hC hG
  generalize res_main_call6_v5 V = P at hP
  generalize res_main_v5 V = k5 at hk
  clean_types
  pointwise
  generalize hF : (Finset.univ : Finset (Fin 1)).fold IntOp.andi 1#1 _ = f
  generalize hg : G _ = g
  generalize hn : N _ = n
  have hF' : f = 1#1 := hF.symm.trans (range_test (fun x => P (ix4 h (blk r) (blk k) x)) _ (hP h (blk r) (blk k)))
  have hg' := hg.symm.trans ((hG' (blk r) (blk k)).trans (hC' (blk r) (blk k)))
  have hn' : n = 0#1 := hn.symm.trans (hN' (blk r))
  rw [hF', hg', hn']
  simp only [hQ, hk, Consts.c8th]
  rw [coe_sum_mul, ← EReal.coe_mul]
  by_cases hkeep : Keep (Q h) (K h) (V (Proc.devRef .tc main_arg4) (ix1 h)) (blk r) (blk k)
  · rw [decide_eq_true hkeep, if_pos hkeep]
    rfl
  · rw [decide_eq_false hkeep, if_neg hkeep]
    exact Consts.cbot

end Cert.Proof.RefMask
-- ==== Proof.Kept.lean ====
/- Every row keeps a block, so its weights have a positive sum; and the softmax of the masked scores weighs as they do. -/
module

public import proofs.«01_k».proof.Proof.Spec
public import proofs.«01_k».proof.Proof.Soft

@[expose] public section

noncomputable section

namespace Cert.Proof.Kept

open Idealize.ShloMosaic Cert.Proof.Spec Cert.Proof.Soft

/-- A positive difference. -/
theorem sub_pos_of_lt_one (c : EReal) (hc : c < 1) : 0 < 1 - c := by
  induction c with
  | bot => exact lt_of_lt_of_eq (EReal.coe_lt_top 0) (by rfl)
  | top => exact absurd hc (by simp)
  | coe x =>
    have hx : x < 1 := by exact_mod_cast hc
    have : ((0 : ℝ) : EReal) < ((1 - x : ℝ) : EReal) := EReal.coe_lt_coe_iff.mpr (by linarith)
    exact_mod_cast this

/-- Where the threshold is below one, every row of blocks keeps its first block in the order. -/
theorem exists_keep (Q K : Mat) (c : EReal) (hc : c < 1) (b : Fin 32) : ∃ j, Keep Q K c b j := by
  obtain ⟨j, hj⟩ := Finite.exists_min (Order.rank (fun i => -prob Q K b i))
  refine ⟨j, ?_⟩
  have h0 : mass Q K b j = 0 := by
    unfold mass
    refine Finset.sum_eq_zero fun l _ => if_neg fun hl => ?_
    have h1 := (Order.lt_rank_iff (fun i => -prob Q K b i) (Order.rank (fun i => -prob Q K b i) l) j).mpr
    rw [Order.order_rank] at h1
    exact absurd (h1 hl) (not_lt.mpr (hj l))
  unfold Keep
  rw [h0]
  exact sub_pos_of_lt_one c hc

theorem wt_nonneg (Q K : Mat) (c : EReal) (r j : Fin 2048) : 0 ≤ wt Q K c r j := by
  unfold wt
  split
  · exact (Real.exp_pos _).le
  · exact le_rfl

/-- The weights of a row have a positive sum. -/
theorem sum_wt_pos (Q K : Mat) (c : EReal) (hc : c < 1) (r : Fin 2048) : 0 < ∑ j, wt Q K c r j := by
  obtain ⟨j, hj⟩ := exists_keep Q K c hc (blk r)
  refine Finset.sum_pos' (fun j _ => wt_nonneg Q K c r j) ⟨row j 0, Finset.mem_univ _, ?_⟩
  have hb : blk (row j 0) = j := Fin.ext (show (j.val * 64 + 0) / 64 = j.val by omega)
  unfold wt
  rw [hb, if_pos hj]
  exact Real.exp_pos _

/-- A row's masked score in the reference: the score with the mean key subtracted, or `⊥`. -/
def masked (Q K : Mat) (c : EReal) (r k : Fin 2048) : EReal :=
  open Classical in
  if Keep Q K c (blk r) (blk k) then (((∑ d, Q r d * (K k d - gm K d)) * (1 / 8) : ℝ) : EReal) else ⊥

/-- The score with the mean key subtracted differs from the score by an amount that does not depend on the key. -/
theorem centred (Q K : Mat) (r k : Fin 2048) :
    (∑ d, Q r d * (K k d - gm K d)) * (1 / 8) = score Q K r k - (∑ d, Q r d * gm K d) * (1 / 8) := by
  unfold score
  rw [← sub_mul, ← Finset.sum_sub_distrib]
  simp only [mul_sub]

/-- The exponentials of a row's masked scores less their maximum are the weights times one positive factor. -/
theorem exp_masked (Q K : Mat) (c : EReal) (hc : c < 1) (r : Fin 2048) :
    ∃ a : ℝ, 0 < a ∧ ∀ k, Ideal.exp (masked Q K c r k - Finset.univ.fold max (⊥ : EReal) (masked Q K c r))
      = ((wt Q K c r k * a : ℝ) : EReal) := by
  obtain ⟨M, hM⟩ : ∃ M : ℝ, Finset.univ.fold max (⊥ : EReal) (masked Q K c r) = (M : EReal) := by
    refine fold_max_real _ (fun k => ?_) ?_
    · unfold masked
      split
      · exact EReal.coe_ne_top _
      · exact bot_ne_top
    · obtain ⟨j, hj⟩ := exists_keep Q K c hc (blk r)
      refine ⟨row j 0, ?_⟩
      have hb : blk (row j 0) = j := Fin.ext (show (j.val * 64 + 0) / 64 = j.val by omega)
      unfold masked
      rw [hb, if_pos hj]
      exact EReal.coe_ne_bot _
  refine ⟨Real.exp (-((∑ d, Q r d * gm K d) * (1 / 8)) - M), Real.exp_pos _, fun k => ?_⟩
  rw [hM]
  unfold masked wt
  by_cases hk : Keep Q K c (blk r) (blk k)
  · rw [if_pos hk, if_pos hk, ← EReal.coe_sub, Ideal.exp_coe, ← Real.exp_add, centred]
    refine congrArg (fun x : ℝ => ((Real.exp x : ℝ) : EReal)) ?_
    ring
  · rw [if_neg hk, if_neg hk, zero_mul]
    simp

/-- The softmax of a row's masked scores, times the values, is the attention. -/
theorem attention (Q K : Mat) (c : EReal) (hc : c < 1) (v : Fin 2048 → Fin 64 → EReal) (r : Fin 2048) (d : Fin 64) :
    ∑ k, Ideal.div (Ideal.exp (masked Q K c r k - Finset.univ.fold max (⊥ : EReal) (masked Q K c r)))
        (∑ l, Ideal.exp (masked Q K c r l - Finset.univ.fold max (⊥ : EReal) (masked Q K c r))) * v k d
      = out Q K v c r d := by
  obtain ⟨a, ha, he⟩ := exp_masked Q K c hc r
  simp only [he]
  exact weighted_eq (wt Q K c r) (wt_nonneg Q K c r) (sum_wt_pos Q K c hc r) a ha fun k => v k d

end Cert.Proof.Kept
-- ==== Proof.RefOut.lean ====
/- The reference's result is the attention of every head. -/
module

public import proofs.«01_k».proof.Proof.RefMask
public import proofs.«01_k».proof.Proof.Kept

@[expose] public section

set_option maxRecDepth 16384

noncomputable section

namespace Cert.Proof.RefOut

open Idealize.ShloMosaic Cert.ReferenceIdeal Cert.ReferenceIdeal.Gen Cert.ReferenceIdeal.Value Cert.Proof.Spec Cert.Proof.Soft
  Cert.Proof.RefScore

/-- The maximum along the last axis. -/
theorem max_last (x : FVec Ideal S1x12x2048x2048 .f32) (h : Fin 12) (r : Fin 2048) :
    Host.reduce FloatOps.maximumf x (constant S_ .f32 0xFF800000#32) reducesTo_S1x12x2048x2048_S1x12x2048_d3 h_S_ (ix3 0 h r)
      = (Finset.univ.fold max (⊥ : EReal) fun l => (x (ix4 0 h r l) : EReal) : EReal) := by
  pointwise
  rw [Consts.cbot]

/-- The exponentials of scores less an amount for each row. -/
theorem exp_sub_row (x : FVec Ideal S1x12x2048x2048 .f32) (M : FVec Ideal S1x12x2048 .f32) (h : Fin 12) (r k : Fin 2048) :
    (Host.exp (subf x (broadcastInDim S1x12x2048x2048 ![0, 1, 2, 3] bcast_S1x12x2048x1_S1x12x2048x2048_0_1_2_3
      (broadcastInDim S1x12x2048x1 ![0, 1, 2] bcast_S1x12x2048_S1x12x2048x1_0_1_2
        (maximumf (broadcastInDim S1x12x2048 ![] bcast_S_S1x12x2048 (constant S_ .f32 0xFF800000#32)) M))))
      (ix4 0 h r k) : EReal)
      = Ideal.exp (x (ix4 0 h r k) - M (ix3 0 h r)) := by
  pointwise
  rw [Consts.cbot, max_eq_right bot_le]

/-- The exponentials of scores less their maximum along the last axis. -/
theorem exp_sub_max (x : FVec Ideal S1x12x2048x2048 .f32) (h : Fin 12) (r k : Fin 2048) :
    (Host.exp (subf x (broadcastInDim S1x12x2048x2048 ![0, 1, 2, 3] bcast_S1x12x2048x1_S1x12x2048x2048_0_1_2_3
      (broadcastInDim S1x12x2048x1 ![0, 1, 2] bcast_S1x12x2048_S1x12x2048x1_0_1_2
        (maximumf (broadcastInDim S1x12x2048 ![] bcast_S_S1x12x2048 (constant S_ .f32 0xFF800000#32))
          (Host.reduce FloatOps.maximumf x (constant S_ .f32 0xFF800000#32) reducesTo_S1x12x2048x2048_S1x12x2048_d3 h_S_)))))
      (ix4 0 h r k) : EReal)
      = Ideal.exp (x (ix4 0 h r k) - Finset.univ.fold max (⊥ : EReal) fun l => x (ix4 0 h r l)) := by
  rw [exp_sub_row, max_last]

/-- Exponentials over their sum along the last axis, times the values. -/
theorem div_sum_mul (e : FVec Ideal S1x12x2048x2048 .f32) (v : FVec Ideal S1x12x2048x64 .f32) (h : Fin 12) (r : Fin 2048) (d : Fin 64) :
    (Host.dotGeneral dot_S1x12x2048x2048_S1x12x2048x64_S1x12x2048x64_3_2_2_3_01_01 none
      (Host.divf e (broadcastInDim S1x12x2048x2048 ![0, 1, 2, 3] bcast_S1x12x2048x1_S1x12x2048x2048_0_1_2_3
        (broadcastInDim S1x12x2048x1 ![0, 1, 2] bcast_S1x12x2048_S1x12x2048x1_0_1_2
          (Host.reduceAdd e (constant S_ .f32 0x00000000#32) reducesTo_S1x12x2048x2048_S1x12x2048_d3 h_S_)))) v
      (ix4 0 h r d) : EReal)
      = ∑ k, Ideal.div (e (ix4 0 h r k)) (∑ l, e (ix4 0 h r l)) * v (ix4 0 h k d) := by
  pointwise

variable (V : Arrays) (Q K : Fin 12 → Mat)
  (hQ : ∀ (h : Fin 12) (r : Fin 2048) (d : Fin 64), V (Proc.devRef .tc main_arg0) (ix4 0 h r d) = (Q h r d : EReal))
  (hK : ∀ (h : Fin 12) (r : Fin 2048) (d : Fin 64), V (Proc.devRef .tc main_arg1) (ix4 0 h r d) = (K h r d : EReal))
  (hs : ∀ h : Fin 12, @LE.le EReal _ (V (Proc.devRef .tc main_arg3) (ix1 h)) ((-1 : ℝ) : EReal))
  (hc : ∀ h : Fin 12, @LT.lt EReal _ (V (Proc.devRef .tc main_arg4) (ix1 h)) 1)

include hQ hK hs in
/-- The exponentials of the masked scores less their maximum. -/
theorem v76_apply (h : Fin 12) (r k : Fin 2048) :
    (res_main_v76 V (ix4 0 h r k) : EReal)
      = Ideal.exp (Kept.masked (Q h) (K h) (V (Proc.devRef .tc main_arg4) (ix1 h)) r k
        - Finset.univ.fold max (⊥ : EReal) (Kept.masked (Q h) (K h) (V (Proc.devRef .tc main_arg4) (ix1 h)) r)) := by
  have h69 : (fun k => (res_main_v69 V (ix4 0 h r k) : EReal)) = Kept.masked (Q h) (K h) (V (Proc.devRef .tc main_arg4) (ix1 h)) r :=
    funext fun k => RefMask.v69_apply V Q K hQ hK hs h r k
  unfold res_main_v76
  refine (exp_sub_max (res_main_v69 V) h r k).trans ?_
  exact congrArg (fun f : Fin 2048 → EReal => Ideal.exp (f k - Finset.univ.fold max (⊥ : EReal) f)) h69

include hQ hK hs hc in
/-- The reference's result array is the attention of every head, where the queries and the keys are reals, the
    similarity thresholds are at most -1 and the mass thresholds are below 1. -/
theorem final :
    Host.dotGeneral (F := Ideal) (φ₁ := .f32) (φ₂ := .f32) dot_S1x12x2048x2048_S1x12x2048x64_S1x12x2048x64_3_2_2_3_01_01 none
      (Host.divf (res_main_v76 V) (broadcastInDim S1x12x2048x2048 ![0, 1, 2, 3] bcast_S1x12x2048x1_S1x12x2048x2048_0_1_2_3
        (broadcastInDim S1x12x2048x1 ![0, 1, 2] bcast_S1x12x2048_S1x12x2048x1_0_1_2
          (Host.reduceAdd (res_main_v76 V) (constant S_ .f32 0x00000000#32) reducesTo_S1x12x2048x2048_S1x12x2048_d3 h_S_))))
      (V (Proc.devRef .tc main_arg2))
      = whole Q K (V (Proc.devRef .tc main_arg2)) (V (Proc.devRef .tc main_arg4)) := by
  funext y
  obtain ⟨h, r, d, hy⟩ : ∃ (h : Fin 12) (r : Fin 2048) (d : Fin 64), y = ix4 0 h r d :=
    ⟨y 1, y 2, y 3, (eq_ix4 y).trans (by rw [Subsingleton.elim (α := Fin 1) (y 0) 0])⟩
  subst hy
  have h76 : (fun k => (res_main_v76 V (ix4 0 h r k) : EReal))
      = fun k => Ideal.exp (Kept.masked (Q h) (K h) (V (Proc.devRef .tc main_arg4) (ix1 h)) r k
        - Finset.univ.fold max (⊥ : EReal) (Kept.masked (Q h) (K h) (V (Proc.devRef .tc main_arg4) (ix1 h)) r)) :=
    funext fun k => v76_apply V Q K hQ hK hs h r k
  refine (div_sum_mul (res_main_v76 V) (V (Proc.devRef .tc main_arg2)) h r d).trans ?_
  refine (congrArg (fun f : Fin 2048 → EReal =>
    ∑ k, Ideal.div (f k) (∑ l, f l) * (V (Proc.devRef .tc main_arg2) (ix4 0 h k d) : EReal)) h76).trans ?_
  exact Kept.attention (Q h) (K h) _ (hc h) (fun r d => V (Proc.devRef .tc main_arg2) (ix4 0 h r d)) r d

end Cert.Proof.RefOut
-- ==== Proof.Algebraic.lean ====
/- The value claim: from arguments that satisfy the precondition, the kernel's result is the reference's. -/
module

public import proofs.«01_k».proof.Defs
public import proofs.«01_k».proof.Proof.KernelArray
public import proofs.«01_k».proof.Proof.RefOut
public import proofs.«01_k».proof.Proof.Gen.Pre_pre
public import Idealize.ShloMosaic.Lib.ReduceAll

@[expose] public section

set_option maxRecDepth 16384

noncomputable section

namespace Cert.Proof.Algebraic

open Idealize.ShloMosaic Idealize.ShloMosaic.TcCoe Idealize.ShloMosaic.StableHlo Idealize.SL.Sem Cert.Proof.Spec

/-- What the precondition says: the queries and the keys are reals, the similarity thresholds are at most -1 and the
    mass thresholds are below 1. -/
theorem of_pre (q k v : FVec Ideal Cert.Pre_pre.S1x12x2048x64 .f32) (s c : FVec Ideal Cert.Pre_pre.S12 .f32)
    (hp : Cert.Pre_pre.fn (F := Ideal) q k v s c = fun _ => 1#1) :
    (∀ i, ∃ x : ℝ, q i = (x : EReal)) ∧ (∀ i, ∃ x : ℝ, k i = (x : EReal))
      ∧ (∀ h : Fin 12, @LE.le EReal _ (s (ix1 h)) ((-1 : ℝ) : EReal)) ∧ ∀ h : Fin 12, @LT.lt EReal _ (c (ix1 h)) 1 := by
  have hz := congrFun hp ix0
  unfold Cert.Pre_pre.fn Cert.Pre_pre.fn_part1 at hz
  have hand : ∀ a b : BitVec 1, IntOp.andi a b = 1#1 → a = 1#1 ∧ b = 1#1 := by decide
  have hb : ∀ p : Prop, ∀ [Decidable p], BitVec.ofBool (decide p) = 1#1 → p := fun p _ h => by
    by_contra hn
    rw [decide_eq_false hn] at h
    exact absurd h (by decide)
  have hreal : ∀ x : EReal, max x (-x) < ⊤ → ∃ y : ℝ, x = (y : EReal) := fun x hx => by
    induction x with
    | bot => simp at hx
    | top => simp at hx
    | coe y => exact ⟨y, rfl⟩
  obtain ⟨h123, h4⟩ := hand _ _ hz
  obtain ⟨h12, h3⟩ := hand _ _ h123
  obtain ⟨h1, h2⟩ := hand _ _ h12
  refine ⟨fun i => ?_, fun i => ?_, fun h => ?_, fun h => ?_⟩
  · have := hb _ (Host.reduce_andi_all _ _ _ _ _ h1 i)
    refine hreal (q i) ?_
    rw [← Consts.ctop]
    exact this
  · have := hb _ (Host.reduce_andi_all _ _ _ _ _ h2 i)
    refine hreal (k i) ?_
    rw [← Consts.ctop]
    exact this
  · have := hb _ (Host.reduce_andi_all _ _ _ _ _ h3 (ix1 h))
    rw [← Consts.cneg1]
    exact this
  · have := hb _ (Host.reduce_andi_all _ _ _ _ _ h4 (ix1 h))
    rw [← RefMask.c1]
    exact this

set_option maxHeartbeats 1600000 in
/-- The kernel's result and the reference's are equal, from memories that agree on the arguments. -/
theorem algebraic : Cert.algebraic_KernelIdeal_ReferenceIdeal_pre_pre := by
  intro m g m' g' hpre hm
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨hq, hk, hs, hc⟩ := of_pre _ _ _ _ _ (hpre c)
  obtain ⟨e0, e1, e2, e3, e4⟩ := hm c
  choose Q hQ using fun (h : Fin 12) (r : Fin 2048) (d : Fin 64) => hq (ix4 0 h r d)
  choose K hK using fun (h : Fin 12) (r : Fin 2048) (d : Fin 64) => hk (ix4 0 h r d)
  refine Eq.trans ?_ (KernelArray.final m c Q K hQ hK).symm
  refine (RefOut.final (launchContents m' c) Q K (fun h r d => (congrFun e0 _).trans (hQ h r d))
    (fun h r d => (congrFun e1 _).trans (hK h r d)) (fun h => ?_) (fun h => ?_)).trans ?_
  · exact le_of_eq_of_le (α := EReal) (congrFun e3 (ix1 h)) (hs h)
  · exact lt_of_eq_of_lt (α := EReal) (congrFun e4 (ix1 h)) (hc h)
  · exact congrArg₂ (whole Q K) e2 e4

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_pre
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_pre.Gen.facts,
    Frames.kernel, Frames.kernelIdeal, Frames.kernelIdeal_pre, Frames.referenceIdeal, Frames.referenceIdeal_pre,
    Frames.preserves, Algebraic.algebraic⟩

end Cert.Proof

end
